-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![1024, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x128 : Shape := ⟨2, ![256, 128]⟩
abbrev S1024x1 : Shape := ⟨2, ![1024, 1]⟩
abbrev S4x256x512 : Shape := ⟨3, ![4, 256, 512]⟩
abbrev S256x512 : Shape := ⟨2, ![256, 512]⟩
abbrev S32x512 : Shape := ⟨2, ![32, 512]⟩
abbrev S1024x512 : Shape := ⟨2, ![1024, 512]⟩
abbrev S32 : Shape := ⟨1, ![32]⟩
abbrev S_ : Shape := ⟨0, ![]⟩
abbrev S1024x128 : Shape := ⟨2, ![1024, 128]⟩
abbrev S1024 : Shape := ⟨1, ![1024]⟩
abbrev S1x128 : Shape := ⟨2, ![1, 128]⟩
abbrev S1x256x512 : Shape := ⟨3, ![1, 256, 512]⟩
abbrev S1 : Shape := ⟨1, ![1]⟩
abbrev S32x256 : Shape := ⟨2, ![32, 256]⟩

abbrev nBuf : Space → Nat
  | .hbm => 6
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S32x512, .f32⟩
  | .local _ .vmem, ⟨0, _⟩ => ⟨S1024x256, .bf16⟩
  | .local _ .vmem, ⟨1, _⟩ => ⟨S256x128, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S32x512, .f32⟩
  | .local _ .vmem, ⟨6, _⟩ => ⟨S1024x512, .bf16⟩
  | .local _ .vmem, ⟨7, _⟩ => ⟨S1024x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_162 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v213 : BitVec 32 := Scalar.addi v2 c1_i32_162
  let c32_i32_163 : BitVec 32 := 32#32
  let v214 : BitVec 32 := Scalar.remsi v213 c32_i32_163
  ![v214.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_165 : BitVec 32 := 32#32
  let v216 : BitVec 32 := Scalar.muli v2 c32_i32_165
  let c0_i32_168 : BitVec 32 := 0#32
  ![v216.toNat, 0]
def k0_off4 (d0 : Dev nD) (c1_i32_162 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v213 : BitVec 32 := Scalar.addi v2 c1_i32_162
  let c32_i32_163 : BitVec 32 := 32#32
  let v214 : BitVec 32 := Scalar.remsi v213 c32_i32_163
  let c32_i32_164 : BitVec 32 := 32#32
  let v215 : BitVec 32 := Scalar.muli v214 c32_i32_164
  let c0_i32_169 : BitVec 32 := 0#32
  ![v215.toNat, 0]
def k0_dev32 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_162 : BitVec 32 := 1#32
  let v213 : BitVec 32 := Scalar.addi v2 c1_i32_162
  let c32_i32_163 : BitVec 32 := 32#32
  let v214 : BitVec 32 := Scalar.remsi v213 c32_i32_163
  let c1_i32_166 : BitVec 32 := 1#32
  let v217 : BitVec 32 := Scalar.muli v214 c1_i32_166
  let v218 : BitVec 32 := Scalar.addi c0_i32_167 v217
  v218.toNat
def k0_dev33 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_170 : BitVec 32 := 2#32
  let v225 : BitVec 32 := Scalar.addi v2 c2_i32_170
  let c32_i32_171 : BitVec 32 := 32#32
  let v226 : BitVec 32 := Scalar.remsi v225 c32_i32_171
  let c1_i32_174 : BitVec 32 := 1#32
  let v229 : BitVec 32 := Scalar.muli v226 c1_i32_174
  let v230 : BitVec 32 := Scalar.addi c0_i32_175 v229
  v230.toNat
def k0_dev34 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_178 : BitVec 32 := 3#32
  let v237 : BitVec 32 := Scalar.addi v2 c3_i32_178
  let c32_i32_179 : BitVec 32 := 32#32
  let v238 : BitVec 32 := Scalar.remsi v237 c32_i32_179
  let c1_i32_182 : BitVec 32 := 1#32
  let v241 : BitVec 32 := Scalar.muli v238 c1_i32_182
  let v242 : BitVec 32 := Scalar.addi c0_i32_183 v241
  v242.toNat
def k0_dev35 (d0 : Dev nD) : Nat :=
  let c0_i32_191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_186 : BitVec 32 := 4#32
  let v249 : BitVec 32 := Scalar.addi v2 c4_i32_186
  let c32_i32_187 : BitVec 32 := 32#32
  let v250 : BitVec 32 := Scalar.remsi v249 c32_i32_187
  let c1_i32_190 : BitVec 32 := 1#32
  let v253 : BitVec 32 := Scalar.muli v250 c1_i32_190
  let v254 : BitVec 32 := Scalar.addi c0_i32_191 v253
  v254.toNat
def k0_dev36 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_194 : BitVec 32 := 5#32
  let v261 : BitVec 32 := Scalar.addi v2 c5_i32_194
  let c32_i32_195 : BitVec 32 := 32#32
  let v262 : BitVec 32 := Scalar.remsi v261 c32_i32_195
  let c1_i32_198 : BitVec 32 := 1#32
  let v265 : BitVec 32 := Scalar.muli v262 c1_i32_198
  let v266 : BitVec 32 := Scalar.addi c0_i32_199 v265
  v266.toNat
def k0_dev37 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_202 : BitVec 32 := 6#32
  let v273 : BitVec 32 := Scalar.addi v2 c6_i32_202
  let c32_i32_203 : BitVec 32 := 32#32
  let v274 : BitVec 32 := Scalar.remsi v273 c32_i32_203
  let c1_i32_206 : BitVec 32 := 1#32
  let v277 : BitVec 32 := Scalar.muli v274 c1_i32_206
  let v278 : BitVec 32 := Scalar.addi c0_i32_207 v277
  v278.toNat
def k0_dev38 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_210 : BitVec 32 := 7#32
  let v285 : BitVec 32 := Scalar.addi v2 c7_i32_210
  let c32_i32_211 : BitVec 32 := 32#32
  let v286 : BitVec 32 := Scalar.remsi v285 c32_i32_211
  let c1_i32_214 : BitVec 32 := 1#32
  let v289 : BitVec 32 := Scalar.muli v286 c1_i32_214
  let v290 : BitVec 32 := Scalar.addi c0_i32_215 v289
  v290.toNat
def k0_dev39 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_218 : BitVec 32 := 8#32
  let v297 : BitVec 32 := Scalar.addi v2 c8_i32_218
  let c32_i32_219 : BitVec 32 := 32#32
  let v298 : BitVec 32 := Scalar.remsi v297 c32_i32_219
  let c1_i32_222 : BitVec 32 := 1#32
  let v301 : BitVec 32 := Scalar.muli v298 c1_i32_222
  let v302 : BitVec 32 := Scalar.addi c0_i32_223 v301
  v302.toNat
def k0_dev40 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_226 : BitVec 32 := 9#32
  let v309 : BitVec 32 := Scalar.addi v2 c9_i32_226
  let c32_i32_227 : BitVec 32 := 32#32
  let v310 : BitVec 32 := Scalar.remsi v309 c32_i32_227
  let c1_i32_230 : BitVec 32 := 1#32
  let v313 : BitVec 32 := Scalar.muli v310 c1_i32_230
  let v314 : BitVec 32 := Scalar.addi c0_i32_231 v313
  v314.toNat
def k0_dev41 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_234 : BitVec 32 := 10#32
  let v321 : BitVec 32 := Scalar.addi v2 c10_i32_234
  let c32_i32_235 : BitVec 32 := 32#32
  let v322 : BitVec 32 := Scalar.remsi v321 c32_i32_235
  let c1_i32_238 : BitVec 32 := 1#32
  let v325 : BitVec 32 := Scalar.muli v322 c1_i32_238
  let v326 : BitVec 32 := Scalar.addi c0_i32_239 v325
  v326.toNat
def k0_dev42 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_242 : BitVec 32 := 11#32
  let v333 : BitVec 32 := Scalar.addi v2 c11_i32_242
  let c32_i32_243 : BitVec 32 := 32#32
  let v334 : BitVec 32 := Scalar.remsi v333 c32_i32_243
  let c1_i32_246 : BitVec 32 := 1#32
  let v337 : BitVec 32 := Scalar.muli v334 c1_i32_246
  let v338 : BitVec 32 := Scalar.addi c0_i32_247 v337
  v338.toNat
def k0_dev43 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_250 : BitVec 32 := 12#32
  let v345 : BitVec 32 := Scalar.addi v2 c12_i32_250
  let c32_i32_251 : BitVec 32 := 32#32
  let v346 : BitVec 32 := Scalar.remsi v345 c32_i32_251
  let c1_i32_254 : BitVec 32 := 1#32
  let v349 : BitVec 32 := Scalar.muli v346 c1_i32_254
  let v350 : BitVec 32 := Scalar.addi c0_i32_255 v349
  v350.toNat
def k0_dev44 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_258 : BitVec 32 := 13#32
  let v357 : BitVec 32 := Scalar.addi v2 c13_i32_258
  let c32_i32_259 : BitVec 32 := 32#32
  let v358 : BitVec 32 := Scalar.remsi v357 c32_i32_259
  let c1_i32_262 : BitVec 32 := 1#32
  let v361 : BitVec 32 := Scalar.muli v358 c1_i32_262
  let v362 : BitVec 32 := Scalar.addi c0_i32_263 v361
  v362.toNat
def k0_dev45 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_266 : BitVec 32 := 14#32
  let v369 : BitVec 32 := Scalar.addi v2 c14_i32_266
  let c32_i32_267 : BitVec 32 := 32#32
  let v370 : BitVec 32 := Scalar.remsi v369 c32_i32_267
  let c1_i32_270 : BitVec 32 := 1#32
  let v373 : BitVec 32 := Scalar.muli v370 c1_i32_270
  let v374 : BitVec 32 := Scalar.addi c0_i32_271 v373
  v374.toNat
def k0_dev46 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_274 : BitVec 32 := 15#32
  let v381 : BitVec 32 := Scalar.addi v2 c15_i32_274
  let c32_i32_275 : BitVec 32 := 32#32
  let v382 : BitVec 32 := Scalar.remsi v381 c32_i32_275
  let c1_i32_278 : BitVec 32 := 1#32
  let v385 : BitVec 32 := Scalar.muli v382 c1_i32_278
  let v386 : BitVec 32 := Scalar.addi c0_i32_279 v385
  v386.toNat
def k0_dev47 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_282 : BitVec 32 := 16#32
  let v393 : BitVec 32 := Scalar.addi v2 c16_i32_282
  let c32_i32_283 : BitVec 32 := 32#32
  let v394 : BitVec 32 := Scalar.remsi v393 c32_i32_283
  let c1_i32_286 : BitVec 32 := 1#32
  let v397 : BitVec 32 := Scalar.muli v394 c1_i32_286
  let v398 : BitVec 32 := Scalar.addi c0_i32_287 v397
  v398.toNat
def k0_dev48 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_290 : BitVec 32 := 17#32
  let v405 : BitVec 32 := Scalar.addi v2 c17_i32_290
  let c32_i32_291 : BitVec 32 := 32#32
  let v406 : BitVec 32 := Scalar.remsi v405 c32_i32_291
  let c1_i32_294 : BitVec 32 := 1#32
  let v409 : BitVec 32 := Scalar.muli v406 c1_i32_294
  let v410 : BitVec 32 := Scalar.addi c0_i32_295 v409
  v410.toNat
def k0_dev49 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_298 : BitVec 32 := 18#32
  let v417 : BitVec 32 := Scalar.addi v2 c18_i32_298
  let c32_i32_299 : BitVec 32 := 32#32
  let v418 : BitVec 32 := Scalar.remsi v417 c32_i32_299
  let c1_i32_302 : BitVec 32 := 1#32
  let v421 : BitVec 32 := Scalar.muli v418 c1_i32_302
  let v422 : BitVec 32 := Scalar.addi c0_i32_303 v421
  v422.toNat
def k0_dev50 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_306 : BitVec 32 := 19#32
  let v429 : BitVec 32 := Scalar.addi v2 c19_i32_306
  let c32_i32_307 : BitVec 32 := 32#32
  let v430 : BitVec 32 := Scalar.remsi v429 c32_i32_307
  let c1_i32_310 : BitVec 32 := 1#32
  let v433 : BitVec 32 := Scalar.muli v430 c1_i32_310
  let v434 : BitVec 32 := Scalar.addi c0_i32_311 v433
  v434.toNat
def k0_dev51 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_314 : BitVec 32 := 20#32
  let v441 : BitVec 32 := Scalar.addi v2 c20_i32_314
  let c32_i32_315 : BitVec 32 := 32#32
  let v442 : BitVec 32 := Scalar.remsi v441 c32_i32_315
  let c1_i32_318 : BitVec 32 := 1#32
  let v445 : BitVec 32 := Scalar.muli v442 c1_i32_318
  let v446 : BitVec 32 := Scalar.addi c0_i32_319 v445
  v446.toNat
def k0_dev52 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_322 : BitVec 32 := 21#32
  let v453 : BitVec 32 := Scalar.addi v2 c21_i32_322
  let c32_i32_323 : BitVec 32 := 32#32
  let v454 : BitVec 32 := Scalar.remsi v453 c32_i32_323
  let c1_i32_326 : BitVec 32 := 1#32
  let v457 : BitVec 32 := Scalar.muli v454 c1_i32_326
  let v458 : BitVec 32 := Scalar.addi c0_i32_327 v457
  v458.toNat
def k0_dev53 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_330 : BitVec 32 := 22#32
  let v465 : BitVec 32 := Scalar.addi v2 c22_i32_330
  let c32_i32_331 : BitVec 32 := 32#32
  let v466 : BitVec 32 := Scalar.remsi v465 c32_i32_331
  let c1_i32_334 : BitVec 32 := 1#32
  let v469 : BitVec 32 := Scalar.muli v466 c1_i32_334
  let v470 : BitVec 32 := Scalar.addi c0_i32_335 v469
  v470.toNat
def k0_dev54 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_338 : BitVec 32 := 23#32
  let v477 : BitVec 32 := Scalar.addi v2 c23_i32_338
  let c32_i32_339 : BitVec 32 := 32#32
  let v478 : BitVec 32 := Scalar.remsi v477 c32_i32_339
  let c1_i32_342 : BitVec 32 := 1#32
  let v481 : BitVec 32 := Scalar.muli v478 c1_i32_342
  let v482 : BitVec 32 := Scalar.addi c0_i32_343 v481
  v482.toNat
def k0_dev55 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_346 : BitVec 32 := 24#32
  let v489 : BitVec 32 := Scalar.addi v2 c24_i32_346
  let c32_i32_347 : BitVec 32 := 32#32
  let v490 : BitVec 32 := Scalar.remsi v489 c32_i32_347
  let c1_i32_350 : BitVec 32 := 1#32
  let v493 : BitVec 32 := Scalar.muli v490 c1_i32_350
  let v494 : BitVec 32 := Scalar.addi c0_i32_351 v493
  v494.toNat
def k0_dev56 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_354 : BitVec 32 := 25#32
  let v501 : BitVec 32 := Scalar.addi v2 c25_i32_354
  let c32_i32_355 : BitVec 32 := 32#32
  let v502 : BitVec 32 := Scalar.remsi v501 c32_i32_355
  let c1_i32_358 : BitVec 32 := 1#32
  let v505 : BitVec 32 := Scalar.muli v502 c1_i32_358
  let v506 : BitVec 32 := Scalar.addi c0_i32_359 v505
  v506.toNat
def k0_dev57 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_362 : BitVec 32 := 26#32
  let v513 : BitVec 32 := Scalar.addi v2 c26_i32_362
  let c32_i32_363 : BitVec 32 := 32#32
  let v514 : BitVec 32 := Scalar.remsi v513 c32_i32_363
  let c1_i32_366 : BitVec 32 := 1#32
  let v517 : BitVec 32 := Scalar.muli v514 c1_i32_366
  let v518 : BitVec 32 := Scalar.addi c0_i32_367 v517
  v518.toNat
def k0_dev58 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_370 : BitVec 32 := 27#32
  let v525 : BitVec 32 := Scalar.addi v2 c27_i32_370
  let c32_i32_371 : BitVec 32 := 32#32
  let v526 : BitVec 32 := Scalar.remsi v525 c32_i32_371
  let c1_i32_374 : BitVec 32 := 1#32
  let v529 : BitVec 32 := Scalar.muli v526 c1_i32_374
  let v530 : BitVec 32 := Scalar.addi c0_i32_375 v529
  v530.toNat
def k0_dev59 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_378 : BitVec 32 := 28#32
  let v537 : BitVec 32 := Scalar.addi v2 c28_i32_378
  let c32_i32_379 : BitVec 32 := 32#32
  let v538 : BitVec 32 := Scalar.remsi v537 c32_i32_379
  let c1_i32_382 : BitVec 32 := 1#32
  let v541 : BitVec 32 := Scalar.muli v538 c1_i32_382
  let v542 : BitVec 32 := Scalar.addi c0_i32_383 v541
  v542.toNat
def k0_dev60 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_386 : BitVec 32 := 29#32
  let v549 : BitVec 32 := Scalar.addi v2 c29_i32_386
  let c32_i32_387 : BitVec 32 := 32#32
  let v550 : BitVec 32 := Scalar.remsi v549 c32_i32_387
  let c1_i32_390 : BitVec 32 := 1#32
  let v553 : BitVec 32 := Scalar.muli v550 c1_i32_390
  let v554 : BitVec 32 := Scalar.addi c0_i32_391 v553
  v554.toNat
def k0_dev61 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_394 : BitVec 32 := 30#32
  let v561 : BitVec 32 := Scalar.addi v2 c30_i32_394
  let c32_i32_395 : BitVec 32 := 32#32
  let v562 : BitVec 32 := Scalar.remsi v561 c32_i32_395
  let c1_i32_398 : BitVec 32 := 1#32
  let v565 : BitVec 32 := Scalar.muli v562 c1_i32_398
  let v566 : BitVec 32 := Scalar.addi c0_i32_399 v565
  v566.toNat
def k0_dev62 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_402 : BitVec 32 := 31#32
  let v573 : BitVec 32 := Scalar.addi v2 c31_i32_402
  let c32_i32_403 : BitVec 32 := 32#32
  let v574 : BitVec 32 := Scalar.remsi v573 c32_i32_403
  let c1_i32_406 : BitVec 32 := 1#32
  let v577 : BitVec 32 := Scalar.muli v574 c1_i32_406
  let v578 : BitVec 32 := Scalar.addi c0_i32_407 v577
  v578.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_410 : BitVec 32 := 32#32
  let v585 : BitVec 32 := Scalar.muli v2 c32_i32_410
  let v586 : Index := Scalar.indexCast v585
  let c0_411 : Index := 0#32
  ![v586.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_414 : BitVec 32 := 32#32
  let v593 : BitVec 32 := Scalar.muli v2 c32_i32_414
  let v594 : Index := Scalar.indexCast v593
  let c0_415 : Index := 0#32
  ![v594.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x128 : Shape := ⟨2, ![256, 128]⟩
abbrev S1024x1 : Shape := ⟨2, ![1024, 1]⟩
abbrev S128x256x512 : Shape := ⟨3, ![128, 256, 512]⟩
abbrev S256x512 : Shape := ⟨2, ![256, 512]⟩
abbrev S1024x128 : Shape := ⟨2, ![1024, 128]⟩
abbrev S_ : Shape := ⟨0, ![]⟩
abbrev S1024 : Shape := ⟨1, ![1024]⟩
abbrev S1024x512 : Shape := ⟨2, ![1024, 512]⟩
abbrev S128 : Shape := ⟨1, ![128]⟩
abbrev S1x128 : Shape := ⟨2, ![1, 128]⟩
abbrev S1024x1x256 : Shape := ⟨3, ![1024, 1, 256]⟩
abbrev S1024x128x1 : Shape := ⟨3, ![1024, 128, 1]⟩
abbrev S1024x128x256 : Shape := ⟨3, ![1024, 128, 256]⟩

abbrev nBuf : Space → Nat
  | .hbm => 38
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x128, .bf16⟩
  | .hbm, ⟨2, _⟩ => ⟨S1024x1, .i32⟩
  | .hbm, ⟨3, _⟩ => ⟨S128x256x512, .bf16⟩
  | .hbm, ⟨4, _⟩ => ⟨S256x512, .bf16⟩
  | .hbm, ⟨5, _⟩ => ⟨S1024x256, .f32⟩
  | .hbm, ⟨6, _⟩ => ⟨S256x128, .f32⟩
  | .hbm, ⟨7, _⟩ => ⟨S1024x128, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x128, .f32⟩
  | .hbm, ⟨18, _⟩ => ⟨S1024x128, .f32⟩
  | .hbm, ⟨19, _⟩ => ⟨S256x512, .f32⟩
  | .hbm, ⟨20, _⟩ => ⟨S1024x512, .f32⟩
  | .hbm, ⟨21, _⟩ => ⟨S128, .i32⟩
  | .hbm, ⟨22, _⟩ => ⟨S1x128, .i32⟩
  | .hbm, ⟨23, _⟩ => ⟨S1024x128, .i32⟩
  | .hbm, ⟨24, _⟩ => ⟨S1024x128, .i32⟩
  | .hbm, ⟨25, _⟩ => ⟨S1024x128, .i1⟩
  | .hbm, ⟨26, _⟩ => ⟨S_, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S1024x1x256, .f32⟩
  | .hbm, ⟨31, _⟩ => ⟨S1024x128x1, .f32⟩
  | .hbm, ⟨32, _⟩ => ⟨S1024x128x256, .f32⟩
  | .hbm, ⟨33, _⟩ => ⟨S1024x128x256, .f32⟩
  | .hbm, ⟨34, _⟩ => ⟨S1024x128x256, .f32⟩
  | .hbm, ⟨35, _⟩ => ⟨S128x256x512, .f32⟩
  | .hbm, ⟨36, _⟩ => ⟨S1024x512, .f32⟩
  | .hbm, ⟨37, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.Loops.lean ====
/-
The kernel's body written with loops.

The printed body is straight-line: 31 signals, a wait, the partial products, 31 remote copies, 31 waits for
arrivals, the sum over the 32 row blocks, 31 waits for departures. Here the same operations are written as
five loops over lists, and `body_eq` states that the printed body IS this one.
-/
module

public import proofs.«01_k».proof.Proof.Gen.KernelIdeal.Skeleton
public import proofs.«01_k».proof.Proof.Gen.KernelIdeal.Launch

@[expose] public section

noncomputable section

namespace Cert.MoE

open Cert.KernelIdeal Cert.KernelIdeal.Gen
open Idealize.ShloMosaic Idealize.SL.Sem

variable {F : FTy → Type} [FloatOps F]

/-! ## The other devices -/

/-- The device `r + 1` places after `c` around the 32. -/
def peer (c : Dev nD) (r : Fin 31) : Dev nD := ⟨(c.val + r.val + 1) % 32, Nat.mod_lt _ (by decide)⟩

/-- The 31 distances, in the order in which the kernel runs through them. -/
def dists : List (Fin 31) := [0, 1, 2, 3, 4, 5, 6, 7, 8, 9, 10, 11, 12, 13, 14, 15, 16, 17, 18, 19, 20, 21, 22, 23, 24, 25, 26, 27, 28, 29, 30]

/-- The devices the kernel signals, as printed. -/
def sigDevs (c : Dev nD) : List (Dev nD) := [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
/-- The devices the kernel copies to, as printed, each with its distance. -/
def copyDevs (c : Dev nD) : List (Dev nD × Fin 31) := [(⟨k0_dev32 c, k0_dev32_lt c⟩, 0), (⟨k0_dev33 c, k0_dev33_lt c⟩, 1), (⟨k0_dev34 c, k0_dev34_lt c⟩, 2), (⟨k0_dev35 c, k0_dev35_lt c⟩, 3), (⟨k0_dev36 c, k0_dev36_lt c⟩, 4), (⟨k0_dev37 c, k0_dev37_lt c⟩, 5), (⟨k0_dev38 c, k0_dev38_lt c⟩, 6), (⟨k0_dev39 c, k0_dev39_lt c⟩, 7), (⟨k0_dev40 c, k0_dev40_lt c⟩, 8), (⟨k0_dev41 c, k0_dev41_lt c⟩, 9), (⟨k0_dev42 c, k0_dev42_lt c⟩, 10), (⟨k0_dev43 c, k0_dev43_lt c⟩, 11), (⟨k0_dev44 c, k0_dev44_lt c⟩, 12), (⟨k0_dev45 c, k0_dev45_lt c⟩, 13), (⟨k0_dev46 c, k0_dev46_lt c⟩, 14), (⟨k0_dev47 c, k0_dev47_lt c⟩, 15), (⟨k0_dev48 c, k0_dev48_lt c⟩, 16), (⟨k0_dev49 c, k0_dev49_lt c⟩, 17), (⟨k0_dev50 c, k0_dev50_lt c⟩, 18), (⟨k0_dev51 c, k0_dev51_lt c⟩, 19), (⟨k0_dev52 c, k0_dev52_lt c⟩, 20), (⟨k0_dev53 c, k0_dev53_lt c⟩, 21), (⟨k0_dev54 c, k0_dev54_lt c⟩, 22), (⟨k0_dev55 c, k0_dev55_lt c⟩, 23), (⟨k0_dev56 c, k0_dev56_lt c⟩, 24), (⟨k0_dev57 c, k0_dev57_lt c⟩, 25), (⟨k0_dev58 c, k0_dev58_lt c⟩, 26), (⟨k0_dev59 c, k0_dev59_lt c⟩, 27), (⟨k0_dev60 c, k0_dev60_lt c⟩, 28), (⟨k0_dev61 c, k0_dev61_lt c⟩, 29), (⟨k0_dev62 c, k0_dev62_lt c⟩, 30)]

theorem sigDevs_eq : ∀ c, sigDevs c = dists.map (peer c) := by decide +kernel
theorem copyDevs_eq : ∀ c, copyDevs c = dists.map fun r => (peer c r, r) := by decide +kernel
theorem dists_nodup : dists.Nodup := by decide
theorem dists_toFinset : dists.toFinset = Finset.univ := by decide

/-! ## The buffers and semaphores -/

abbrev xM : Memref sig .tc .vmem S1024x256 .bf16 := Memref.whole cc0_stg0_0
abbrev rwM : Memref sig .tc .vmem S256x128 .bf16 := Memref.whole cc0_stg1_0
abbrev riM : Memref sig .tc .vmem S1024x1 .i32 := Memref.whole cc0_stg2_0
abbrev ewM : Memref sig .tc .vmem S4x256x512 .bf16 := Memref.whole cc0_stg3_0
abbrev swM : Memref sig .tc .vmem S256x512 .bf16 := Memref.whole cc0_stg4_0
abbrev oM : Memref sig .tc .vmem S32x512 .f32 := Memref.whole cc0_stg5_0
/-- The device's own products, all 1024 rows. -/
abbrev pM : Memref sig .tc .vmem S1024x512 .bf16 := Memref.whole cc0_scratch0
/-- Where the others' products arrive, 32 rows from each device. -/
abbrev gM : Memref sig .tc .vmem S1024x512 .bf16 := Memref.whole cc0_scratch1

abbrev hpM : (pM : Memref sig .tc .vmem S1024x512 .bf16).IsWhole := Memref.isWhole_whole _
abbrev hgM : (gM : Memref sig .tc .vmem S1024x512 .bf16).IsWhole := Memref.isWhole_whole _

/-- The barrier semaphore, shared by all launches. -/
abbrev barS : Sem sig := (SemArray.scalar (sig.barrier 0 rfl) : Sems sig S_).sem
/-- The semaphores on which the kernel's own copies leave, by destination. -/
abbrev outA : DmaSems sig S32 := cc0_scratch2
/-- The semaphores on which the others' copies arrive, by origin. -/
abbrev inA : DmaSems sig S32 := cc0_scratch3

/-- The semaphore of array `A` at the device `r + 1` places after `c`. -/
abbrev semAt (A : DmaSems sig S32) (c : Dev nD) (r : Fin 31) : DmaSem sig :=
  ((A.slice (Rect.unit (s := S32) (k0_off1 c (BitVec.ofNat 32 (1 + r.val))) S1.size (k0_off1_inb c r))).squeeze S_ squeezes_S1_S_).sem
/-- The semaphore of array `A` at `c` itself. -/
abbrev semOwn (A : DmaSems sig S32) (c : Dev nD) : DmaSem sig :=
  ((A.slice (Rect.unit (s := S32) (k0_off2 c) S1.size (k0_off2_inb c))).squeeze S_ squeezes_S1_S_).sem

abbrev rOwn (c : Dev nD) : Rect S1024x512 := Rect.unit (s := S1024x512) (k0_off3 c) S32x512.size (k0_off3_inb c)
abbrev rAt (c : Dev nD) (r : Fin 31) : Rect S1024x512 :=
  Rect.unit (s := S1024x512) (k0_off4 c (BitVec.ofNat 32 (1 + r.val))) S32x512.size (k0_off4_inb c r)
abbrev rTop : Rect S1024x512 := Rect.unit (s := S1024x512) ![0, 0] S32x512.size inb_S1024x512_S32x512_0_0
abbrev rLoc (c : Dev nD) : Rect S1024x512 := Rect.unit (s := S1024x512) (k0_off5 c) S32x512.size (k0_off5_inb c)

/-- Rows `32 c …` of a 1024-row buffer. -/
abbrev ownRows (M : Memref sig .tc .vmem S1024x512 .bf16) (c : Dev nD) : Memref sig .tc .vmem S32x512 .bf16 := M.slice (rOwn c) (fun _ => rfl)
/-- The 32 rows of a 1024-row buffer that belong to the device `r + 1` places after `c`. -/
abbrev rowsAt (M : Memref sig .tc .vmem S1024x512 .bf16) (c : Dev nD) (r : Fin 31) : Memref sig .tc .vmem S32x512 .bf16 := M.slice (rAt c r) (fun _ => rfl)
abbrev topRows (M : Memref sig .tc .vmem S1024x512 .bf16) : Memref sig .tc .vmem S32x512 .bf16 := M.slice rTop (fun _ => rfl)

/-! ## The loops -/

abbrev P (α : Type) : Type 1 := Prog (TpuEff nD τ sig (Elt F) Λ₀ .tc) α

/-- `f` on each element of a list in order. -/
def each {α : Type} (f : α → P (F := F) PUnit) : List α → P (F := F) PUnit
  | [] => .ret ⟨⟩
  | a :: l => f a >>= fun _ => each f l

/-- One of the 31 signals. -/
def signal (d : Dev nD) : P (F := F) PUnit := semSignalWord d barS 1#32

/-- One of the 31 copies: the rows of the device `x.1`, which is `x.2 + 1` places after `c`, to that device, into `c`'s rows there. -/
def copyTo (c : Dev nD) (x : Dev nD × Fin 31) : P (F := F) PUnit :=
  Prog.lift (.enqueueDma (rowsAt pM c x.2) (.remote (Dev.tc x.1) (ownRows gM c) (.dma (semAt outA c x.2))) (.dma (semOwn inA c))
    (hpM.wordExact_slice rfl _ (k0_off4_wordsbf16 c x.2)) (hgM.wordExact_slice rfl _ (k0_off3_wordsbf16 c)) ⟨⟨rfl, Or.inl rfl⟩, trivial⟩)

/-- One of the 31 waits for an arrival. -/
def waitIn (c : Dev nD) (r : Fin 31) : P (F := F) PUnit :=
  Prog.lift (.waitDma2 (semAt inA c r) (topRows pM) (rowsAt gM c r)
    (hpM.wordExact_slice rfl _ wordsbf16_S1024x512_S32x512_0_0) (hgM.wordExact_slice rfl _ (k0_off4_wordsbf16 c r)))

/-- One of the 31 waits for a departure. -/
def waitOut (c : Dev nD) (r : Fin 31) : P (F := F) PUnit :=
  Prog.lift (.waitDma2 (semAt outA c r) (ownRows gM c) (rowsAt pM c r)
    (hgM.wordExact_slice rfl _ (k0_off3_wordsbf16 c)) (hpM.wordExact_slice rfl _ (k0_off4_wordsbf16 c r)))

/-- A row at which 32 rows of a 1024-row buffer may start. -/
abbrev Row : Type := { n : ℕ // ∀ a, (![n, 0] : Fin 2 → ℕ) a + S32x512.size a ≤ S1024x512.size a }
/-- The 32 rows at which the kernel reads the arrivals, in order. -/
def rows : List Row := [⟨0, inb_S1024x512_S32x512_0_0⟩, ⟨32, inb_S1024x512_S32x512_32_0⟩, ⟨64, inb_S1024x512_S32x512_64_0⟩, ⟨96, inb_S1024x512_S32x512_96_0⟩, ⟨128, inb_S1024x512_S32x512_128_0⟩, ⟨160, inb_S1024x512_S32x512_160_0⟩, ⟨192, inb_S1024x512_S32x512_192_0⟩, ⟨224, inb_S1024x512_S32x512_224_0⟩, ⟨256, inb_S1024x512_S32x512_256_0⟩, ⟨288, inb_S1024x512_S32x512_288_0⟩, ⟨320, inb_S1024x512_S32x512_320_0⟩, ⟨352, inb_S1024x512_S32x512_352_0⟩, ⟨384, inb_S1024x512_S32x512_384_0⟩, ⟨416, inb_S1024x512_S32x512_416_0⟩, ⟨448, inb_S1024x512_S32x512_448_0⟩, ⟨480, inb_S1024x512_S32x512_480_0⟩, ⟨512, inb_S1024x512_S32x512_512_0⟩, ⟨544, inb_S1024x512_S32x512_544_0⟩, ⟨576, inb_S1024x512_S32x512_576_0⟩, ⟨608, inb_S1024x512_S32x512_608_0⟩, ⟨640, inb_S1024x512_S32x512_640_0⟩, ⟨672, inb_S1024x512_S32x512_672_0⟩, ⟨704, inb_S1024x512_S32x512_704_0⟩, ⟨736, inb_S1024x512_S32x512_736_0⟩, ⟨768, inb_S1024x512_S32x512_768_0⟩, ⟨800, inb_S1024x512_S32x512_800_0⟩, ⟨832, inb_S1024x512_S32x512_832_0⟩, ⟨864, inb_S1024x512_S32x512_864_0⟩, ⟨896, inb_S1024x512_S32x512_896_0⟩, ⟨928, inb_S1024x512_S32x512_928_0⟩, ⟨960, inb_S1024x512_S32x512_960_0⟩, ⟨992, inb_S1024x512_S32x512_992_0⟩]
abbrev rRow (n : Row) : Rect S1024x512 := Rect.unit (s := S1024x512) ![n.1, 0] S32x512.size n.2

/-- The sum over the 32 blocks of rows, onto `acc`. -/
def sumRows (acc : FVec F S32x512 .f32) : List Row → P (F := F) (FVec F S32x512 .f32)
  | [] => .ret acc
  | n :: l => do
    let v : Vec F S32x512 .bf16 ← Prog.lift (.load gM (rRow n).toLoadRect (View.loadsAt_vmem h_S32x512))
    sumRows (addf acc (extf .f32 v bitsLt_bf16_f32)) l

abbrev rX : Rect S1024x256 := Rect.unit (s := S1024x256) ![0, 0] S1024x256.size inb_S1024x256_S1024x256_0_0
abbrev rRW : Rect S256x128 := Rect.unit (s := S256x128) ![0, 0] S256x128.size inb_S256x128_S256x128_0_0
abbrev rRI : Rect S1024x1 := Rect.unit (s := S1024x1) ![0, 0] S1024x1.size inb_S1024x1_S1024x1_0_0
abbrev rE0 : Rect S4x256x512 := Rect.unit (s := S4x256x512) ![0, 0, 0] S1x256x512.size inb_S4x256x512_S1x256x512_0_0_0
abbrev rE1 : Rect S4x256x512 := Rect.unit (s := S4x256x512) ![1, 0, 0] S1x256x512.size inb_S4x256x512_S1x256x512_1_0_0
abbrev rE2 : Rect S4x256x512 := Rect.unit (s := S4x256x512) ![2, 0, 0] S1x256x512.size inb_S4x256x512_S1x256x512_2_0_0
abbrev rE3 : Rect S4x256x512 := Rect.unit (s := S4x256x512) ![3, 0, 0] S1x256x512.size inb_S4x256x512_S1x256x512_3_0_0
abbrev rP : Rect S1024x512 := Rect.unit (s := S1024x512) ![0, 0] S1024x512.size inb_S1024x512_S1024x512_0_0
abbrev rXc (c : Dev nD) : Rect S1024x256 := Rect.unit (s := S1024x256) (k0_off6 c) S32x256.size (k0_off6_inb c)
abbrev rSW : Rect S256x512 := Rect.unit (s := S256x512) ![0, 0] S256x512.size inb_S256x512_S256x512_0_0
abbrev rO : Rect S32x512 := Rect.unit (s := S32x512) ![0, 0] S32x512.size inb_S32x512_S32x512_0_0

/-- The device's number as the kernel computes it. -/
def word (c : Dev nD) : BitVec 32 := Scalar.remsi (Scalar.divsi (Dev.word c) 1#32) 32#32

/-- The device's products, from what it reads. -/
def products (c : Dev nD) (x : Vec F S1024x256 .bf16) (rw : Vec F S256x128 .bf16) (ri : Vec F S1024x1 .i32)
    (e0 e1 e2 e3 : Vec F S1x256x512 .bf16) : FVec F S1024x512 .bf16 :=
  k0_pay6 (word c) (k0_pay1 x) (k0_pay2 ri) (k0_pay3 x rw ri)
    (k0_pay5 (word c) (k0_pay1 x) (k0_pay2 ri) (k0_pay3 x rw ri) (k0_pay4 (F := F)) (Scalar.muli (word c) 4#32) 0#32 e0 e1 e2) e3

/-- The body after the device's number has been read. -/
def bodyAt (c : Dev nD) : P (F := F) PUnit := do
  each signal (sigDevs c)
  semWaitWord barS 31#32
  let x ← Prog.lift (.load xM rX.toLoadRect (View.loadsAt_vmem h_S1024x256))
  let rw ← Prog.lift (.load rwM rRW.toLoadRect (View.loadsAt_vmem h_S256x128))
  let ri ← Prog.lift (.load riM rRI.toLoadRect (View.loadsAt_vmem h_S1024x1))
  let e0 ← Prog.lift (.load ewM rE0.toLoadRect (View.loadsAt_vmem h_S1x256x512))
  let e1 ← Prog.lift (.load ewM rE1.toLoadRect (View.loadsAt_vmem h_S1x256x512))
  let e2 ← Prog.lift (.load ewM rE2.toLoadRect (View.loadsAt_vmem h_S1x256x512))
  let e3 ← Prog.lift (.load ewM rE3.toLoadRect (View.loadsAt_vmem h_S1x256x512))
  let _ ← Prog.lift (.load pM rP.toLoadRect (View.loadsAt_vmem h_S1024x512))
  Prog.lift (.store pM rP (products c x rw ri e0 e1 e2 e3) Finset.univ
    (View.stores_vmem h_S1024x512 (hpM.storeExact_slice rfl _ packedbf16_S1024x512_S1024x512_0_0) (fun _ => rfl)) (.inl rfl))
  each (copyTo c) (copyDevs c)
  let p ← Prog.lift (.load pM (rLoc c).toLoadRect (View.loadsAt_vmem h_S32x512))
  let _ ← Prog.lift (.load gM (rLoc c).toLoadRect (View.loadsAt_vmem h_S32x512))
  Prog.lift (.store gM (rLoc c) (k0_pay7 p) Finset.univ
    (View.stores_vmem h_S32x512 (hgM.storeExact_slice rfl _ (k0_off5_packedbf16 c)) (fun _ => rfl)) (.inl rfl))
  let xc ← Prog.lift (.load xM (rXc c).toLoadRect (View.loadsAt_vmem h_S32x256))
  let sw ← Prog.lift (.load swM rSW.toLoadRect (View.loadsAt_vmem h_S256x512))
  each (waitIn c) dists
  let tot ← sumRows (k0_pay8 xc sw) rows
  let _ ← Prog.lift (.load oM rO.toLoadRect (View.loadsAt_vmem h_S32x512))
  Prog.lift (.store oM rO tot Finset.univ (View.stores_vmem_bits_univ h_S32x512 rfl) (.inl rfl))
  each (waitOut c) dists

/-- The body with loops. -/
def loopBody : P (F := F) PUnit := Prog.lift .deviceId >>= bodyAt

set_option maxRecDepth 65536 in
set_option maxHeartbeats 4000000 in
/-- The printed body is the body with loops: the same operations in the same order. -/
theorem body_eq :
    cc0_body (F := F) xM (Memref.isWhole_whole _) rwM (Memref.isWhole_whole _) riM (Memref.isWhole_whole _) ewM (Memref.isWhole_whole _)
      swM (Memref.isWhole_whole _) oM (Memref.isWhole_whole _) pM (Memref.isWhole_whole _) gM (Memref.isWhole_whole _) outA inA = loopBody := by
  rfl

end Cert.MoE

end
-- ==== Proof.Cells.lean ====
/-
The cells, levels and debts of the exchange.

Every device owns 65 cells: its barrier cell, and for each device `d` a departure cell (its own rows for `d` have
left) and an arrival cell (the rows from `d` are here). The two cells of a device towards itself are never used.
-/
module

public import proofs.«01_k».proof.Proof.Loops
public import Idealize.ShloMosaic.Lib.Rounds
public import Idealize.ShloMosaic.Lib.Pipeline.BigSepL
public import Idealize.ShloMosaic.Lib.Tactic

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's copy of the rounds and the exchange's, whose duties are named by their payers -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The other devices, as a list -/

theorem others_eq : ∀ c : Dev nD, Finset.univ.erase c = (dists.map (peer c)).toFinset := by decide +kernel
theorem others_nodup : ∀ c : Dev nD, (dists.map (peer c)).Nodup := by decide +kernel
theorem peer_ne : ∀ (c : Dev nD) (r : Fin 31), peer c r ≠ c := by decide +kernel

/-- Over the other devices: the same as over the 31 distances. -/
theorem bigSep_others {M : Type} [URA M] (c : Dev nD) (Φ : Dev nD → sProp M) :
    bigSep (Finset.univ.erase c) Φ = bigSepL dists fun r => Φ (peer c r) := by
  rw [bigSep_eq_bigSepL_of_eq _ (others_eq c) (others_nodup c), bigSepL_map]

/-- Over all devices: the device itself, then the 31 others. -/
theorem bigSep_devs {M : Type} [URA M] (c : Dev nD) (Φ : Dev nD → sProp M) :
    bigSep Finset.univ Φ = iprop(Φ c ∗ bigSepL dists fun r => Φ (peer c r)) := by
  rw [bigSep_univ_at Φ c, bigSep_others]

/-! ## The cells -/

/-- A device's cells: the barrier, the departures, the arrivals. -/
abbrev Kind : Type := Unit ⊕ (Dev nD ⊕ Dev nD)

abbrev csem : Kind → SemLoc sig
  | .inl _ => .reg barS
  | .inr (.inl d) => .dma (semOwn outA d)
  | .inr (.inr s) => .dma (semOwn inA s)

theorem csem_injective : Function.Injective csem := by
  have h : ∀ k k' : Kind, csem k = csem k' → k = k' := by decide +kernel
  exact fun k k' => h k k'

theorem semAt_eq_out : ∀ (c : Dev nD) (r : Fin 31), semAt outA c r = semOwn outA (peer c r) := by decide +kernel
theorem semAt_eq_in : ∀ (c : Dev nD) (r : Fin 31), semAt inA c r = semOwn inA (peer c r) := by decide +kernel

abbrev barCell (c : Dev nD) : GSem nD τ sig := ((c : Thread nD τ), .reg barS)
/-- The cell of `c` on which the rows for `d` leave. -/
abbrev outCell (c d : Dev nD) : GSem nD τ sig := ((c : Thread nD τ), .dma (semOwn outA d))
/-- The cell of `c` on which the rows from `s` arrive. -/
abbrev inCell (c s : Dev nD) : GSem nD τ sig := ((c : Thread nD τ), .dma (semOwn inA s))
abbrev kcell (ck : Dev nD × Kind) : GSem nD τ sig := ((ck.1 : Thread nD τ), csem ck.2)

theorem kcell_injective : Function.Injective (kcell : Dev nD × Kind → GSem nD τ sig) := by
  rintro ⟨c, k⟩ ⟨c', k'⟩ h
  have h1 : c = c' := congrArg (fun g : GSem nD τ sig => g.1.1) h
  have h2 : k = k' := csem_injective (congrArg Prod.snd h)
  rw [h1, h2]

open Classical in
/-- Which of the cells a semaphore is, if any. -/
def kindOf (sm : SemLoc sig) : Option Kind := if h : ∃ k, csem k = sm then some h.choose else none

theorem kindOf_csem (k : Kind) : kindOf (csem k) = some k := by
  have h : ∃ k', csem k' = csem k := ⟨k, rfl⟩
  unfold kindOf
  rw [dif_pos h, csem_injective h.choose_spec]

theorem kindOf_none {sm : SemLoc sig} (h : ∀ k, csem k ≠ sm) : kindOf sm = none := by
  unfold kindOf
  rw [dif_neg fun ⟨k, hk⟩ => h k hk]

/-- What a copy of 32 rows credits. -/
abbrev N : ℕ := (ownRows gM (0 : Dev nD)).view.dmaCredit
theorem N_pos : 0 < N := View.dmaCredit_pos _ (by decide)

/-! ## What a device owes

It owes every other device one unit on that device's barrier cell, and the rows it sends there. The signals come
first, nearest device first; then the copies in the same order. -/

/-- Owed when the copies to the distances `l` are still to be made. -/
def oweIn (c : Dev nD) : List (Fin 31) → CellTallies nD τ sig Unit
  | [] => 0
  | r :: l => oweIn c l + tallyAt (inCell (peer c r) c) () N

/-- Owed when the signals to the distances `l` and all copies are still to be made. -/
def oweBar (c : Dev nD) : List (Fin 31) → CellTallies nD τ sig Unit
  | [] => oweIn c dists
  | r :: l => oweBar c l + tallyAt (barCell (peer c r)) () 1

def O₀ (c : Dev nD) : CellTallies nD τ sig Unit := oweBar c dists

def L (g : GSem nD τ sig) : Finset Unit := if g.1.2 = .tc then {()} else ∅
/-- Barrier cells at 1, arrival cells at 2, all others at 0. -/
def lv (g : GSem nD τ sig) (_ : Unit) : ℕ :=
  match kindOf g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  unfold lv; rw [show kindOf (barCell c).2 = _ from kindOf_csem (.inl ())]
theorem lv_in (c s : Dev nD) (u : Unit) : lv (inCell c s) u = 2 := by
  unfold lv; rw [show kindOf (inCell c s).2 = _ from kindOf_csem (.inr (.inr s))]

theorem oweIn_pos {c : Dev nD} {l : List (Fin 31)} {g : GSem nD τ sig} {u : Unit} (h : 0 < oweIn c l g u) :
    ∃ p, g = inCell p c := by
  induction l with
  | nil => exact absurd h (Nat.lt_irrefl 0)
  | cons r l ih =>
    unfold oweIn at h
    rw [Pi.add_apply, Finsupp.add_apply, tallyAt_apply] at h
    by_cases hg : g = inCell (peer c r) c ∧ u = ()
    · exact ⟨_, hg.1⟩
    · rw [if_neg hg] at h; exact ih h

theorem oweBar_pos {c : Dev nD} {l : List (Fin 31)} {g : GSem nD τ sig} {u : Unit} (h : 0 < oweBar c l g u) :
    (∃ p, g = inCell p c) ∨ ∃ p, g = barCell p := by
  induction l with
  | nil => exact .inl (oweIn_pos h)
  | cons r l ih =>
    unfold oweBar at h
    rw [Pi.add_apply, Finsupp.add_apply, tallyAt_apply] at h
    by_cases hg : g = barCell (peer c r) ∧ u = ()
    · exact .inr ⟨_, hg.1⟩
    · rw [if_neg hg] at h; exact ih h

omit [FloatOps F] in
/-- Waiting on a semaphore that is no cell of the exchange is allowed from start to end. -/
theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweBar_pos hg with ⟨p, rfl⟩ | ⟨p, rfl⟩ <;> exact Finset.mem_singleton_self _)
      (fun p hp => by rw [Finset.mem_singleton.mp hp]; dsimp only [lv]; rw [kindOf_none hq])
      (fun g u hg => by
        rcases oweBar_pos hg with ⟨p, rfl⟩ | ⟨p, rfl⟩
        · rw [lv_in]; decide
        · rw [lv_bar]; decide)
  · rw [MayWait_zero]; iintro -; iempintro

omit [FloatOps F] in
/-- Waiting at the barrier is allowed while only arrivals are owed. -/
theorem mayWait_bar (c : Dev nD) : (levAts L lv : sProp 𝕄) ⊢ MayWait (c : Thread nD τ) (.reg barS) () (oweIn c dists) :=
  MayOwe.of_cut (L := L) (lev := lv) 1 (fun p hp => by rw [Finset.mem_singleton.mp hp, L_tc]; exact Finset.mem_singleton_self _)
    (fun g u hg => by obtain ⟨p, rfl⟩ := oweIn_pos hg; exact Finset.mem_singleton_self _)
    (fun p hp => by rw [Finset.mem_singleton.mp hp]; exact (lv_bar c _).le)
    (fun g u hg => by obtain ⟨p, rfl⟩ := oweIn_pos hg; rw [lv_in]; decide)

/-! ## What all devices together owe each cell -/

theorem count_peer : ∀ d c : Dev nD, (dists.countP fun r => decide (peer d r = c)) = if d = c then 0 else 1 := by decide +kernel

theorem oweIn_bar (d c : Dev nD) (l : List (Fin 31)) : oweIn d l (barCell c) () = 0 := by
  by_contra h
  obtain ⟨p, hp⟩ := oweIn_pos (Nat.pos_of_ne_zero h)
  exact absurd (congrArg Prod.snd hp) (fun h => by cases h)

theorem oweBar_bar (d c : Dev nD) (l : List (Fin 31)) : oweBar d l (barCell c) () = l.countP fun r => decide (peer d r = c) := by
  induction l with
  | nil => exact oweIn_bar d c _
  | cons r l ih =>
    unfold oweBar
    rw [Pi.add_apply, Finsupp.add_apply, ih, tallyAt_apply, List.countP_cons]
    congr 1
    by_cases h : peer d r = c
    · subst h; rw [if_pos ⟨rfl, rfl⟩, if_pos (by simp)]
    · rw [if_neg (fun hh => h (congrArg (fun g : GSem nD τ sig => g.1.1) hh.1).symm), if_neg (by simpa using h)]

theorem oweIn_in (d c s : Dev nD) (l : List (Fin 31)) :
    oweIn d l (inCell c s) () = if d = s then (l.countP fun r => decide (peer d r = c)) * N else 0 := by
  induction l with
  | nil => show 0 = _; split <;> simp
  | cons r l ih =>
    unfold oweIn
    rw [Pi.add_apply, Finsupp.add_apply, ih, tallyAt_apply, List.countP_cons]
    by_cases hs : d = s
    · subst hs
      rw [if_pos rfl, if_pos rfl, Nat.add_mul]
      congr 1
      by_cases h : peer d r = c
      · subst h; rw [if_pos ⟨rfl, rfl⟩, if_pos (by simp), Nat.one_mul]
      · rw [if_neg (fun hh => h (congrArg (fun g : GSem nD τ sig => g.1.1) hh.1).symm), if_neg (by simpa using h), Nat.zero_mul]
    · rw [if_neg hs, if_neg hs, if_neg]
      intro hh
      have : (Sum.inr (Sum.inr s) : Kind) = Sum.inr (Sum.inr d) := csem_injective (congrArg Prod.snd hh.1)
      exact hs (by injection this with h; injection h with h; exact h.symm)

theorem oweBar_in (d c s : Dev nD) (l : List (Fin 31)) : oweBar d l (inCell c s) () = oweIn d dists (inCell c s) () := by
  induction l with
  | nil => rfl
  | cons r l ih =>
    unfold oweBar
    rw [Pi.add_apply, Finsupp.add_apply, ih, tallyAt_apply, if_neg, Nat.add_zero]
    exact fun hh => absurd (congrArg Prod.snd hh.1) (fun h => by cases h)

theorem owed_bar (d c : Dev nD) : O₀ d (barCell c) () = if d = c then 0 else 1 := (oweBar_bar d c dists).trans (count_peer d c)
theorem owed_in (d c s : Dev nD) : O₀ d (inCell c s) () = if d = s then (if d = c then 0 else 1) * N else 0 :=
  ((oweBar_in d c s dists).trans (oweIn_in d c s dists)).trans (by rw [count_peer])

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_in (c s : Dev nD) (h : s ≠ c) :
    tallyOn (inCell c s) (launchCredit (Pipeline.owing O₀) 0 (inCell c s)) = (tallyAt (inCell c s) () N : CellTallies nD τ sig Unit) := by
  unfold tallyAt; refine congrArg _ (Finsupp.ext fun u => ?_); cases u
  rw [Pipeline.launchCredit_owing, Finsupp.single_eq_same, Finset.sum_congr rfl fun d _ => owed_in d c s,
    Finset.sum_ite_eq' Finset.univ s fun d => (if d = c then 0 else 1) * N, if_pos (Finset.mem_univ _), if_neg h, Nat.one_mul]

omit [FloatOps F] in
/-- The credit each device starts with: 31 units of its barrier, and each other device's rows. -/
theorem creds (c : Dev nD) :
    (Pipeline.launchCred O₀ c : sProp 𝕄)
      ⊢ iprop(cred (tallyAt (barCell c) () 31) ∗ bigSepL dists fun r => cred (tallyAt (inCell c (peer c r)) () N)) := by
  have hk : (Pipeline.launchCred O₀ c : sProp 𝕄)
      ⊢ bigSep Finset.univ fun k : Kind => cred (tallyOn (kcell (c, k)) (launchCredit (Pipeline.owing O₀) 0 (kcell (c, k)))) := by
    unfold Pipeline.launchCred
    exact (bigSep_subset (t := Finset.univ.map ⟨csem, csem_injective⟩) (Finset.subset_univ _)).trans
      (Entails.of_eq (bigSep_map (⟨csem, csem_injective⟩ : Kind ↪ SemLoc sig)))
  have hs : ∀ A B C : sProp 𝕄, iprop(A ∗ B ∗ C) ⊢ iprop(A ∗ C) := fun A B C => by
    iintro ⟨HA, -, HC⟩; isplitl [HA] <;> iassumption
  refine hk.trans ?_
  rw [bigSep_univ_sum, bigSep_univ_sum, bigSep_univ_of_subsingleton ()]
  refine (hs _ _ _).trans (BIClass.sep_mono (Entails.of_eq (congrArg cred (launch_bar c))) ?_)
  refine (bigSep_subset (t := Finset.univ.erase c) (Finset.erase_subset _ _)).trans ?_
  rw [bigSep_others]
  exact bigSepL_mono fun r _ => Entails.of_eq (congrArg cred (launch_in c _ (peer_ne c r)))

end Cert.MoE

end
-- ==== Proof.Protocol.lean ====
/-
What the buffers hold, and the schedule of the exchange.

Rows `32 d …` of a device's own products leave for the device `d`; rows `32 s …` of the buffer of arrivals come from
the device `s`. At the barrier every device lends each other device its own rows of the buffer of arrivals there.
-/
module

public import proofs.«01_k».proof.Proof.Cells
public import Idealize.ShloMosaic.Lib.Ring

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The rows of one device -/

theorem rAt_eq (c : Dev nD) (r : Fin 31) : rAt c r = rOwn (peer c r) :=
  Rect.unit_congr ((k0_off4_eq c r).trans (k0_off3_eq (peer c r)).symm) _ _
theorem rLoc_eq (c : Dev nD) : rLoc c = rOwn c := Rect.unit_congr ((k0_off5_eq c).trans (k0_off3_eq c).symm) _ _
theorem rowsAt_eq (M : Memref sig .tc .vmem S1024x512 .bf16) (c : Dev nD) (r : Fin 31) : rowsAt M c r = ownRows M (peer c r) :=
  Memref.slice_unit_congr M ((k0_off4_eq c r).trans (k0_off3_eq (peer c r)).symm) _ _ _ _

/-- The elements of the rows `32 d …`. -/
def rowSet (d : Dev nD) : Finset S1024x512.Idx := (rOwn d).set

theorem rOwn_row (d : Dev nD) (x : S32x512.Idx) : (((rOwn d).emb x) 0 : ℕ) = 32 * d.val + (x 0 : ℕ) := by
  rw [Rect.emb_apply]
  show k0_off3 d 0 + 1 * _ = _
  rw [k0_off3_eq, Nat.one_mul]; rfl
theorem rOwn_col (d : Dev nD) (x : S32x512.Idx) : (((rOwn d).emb x) 1 : ℕ) = (x 1 : ℕ) := by
  rw [Rect.emb_apply]
  show k0_off3 d 1 + 1 * _ = _
  rw [k0_off3_eq, Nat.one_mul]; exact Nat.zero_add _

theorem mem_rowSet {d : Dev nD} {i : S1024x512.Idx} : i ∈ rowSet d ↔ (i 0 : ℕ) / 32 = d.val := by
  unfold rowSet
  rw [Rect.mem_set_unit, k0_off3_eq]
  have h1 : (i 1 : ℕ) < 512 := (i 1).isLt
  constructor
  · intro h
    have h0 : 32 * d.val ≤ (i 0 : ℕ) ∧ (i 0 : ℕ) < 32 * d.val + 32 := h 0
    omega
  · intro h a
    fin_cases a
    · show 32 * d.val ≤ (i 0 : ℕ) ∧ (i 0 : ℕ) < 32 * d.val + 32
      omega
    · show 0 ≤ (i 1 : ℕ) ∧ (i 1 : ℕ) < 0 + 512
      omega

theorem rowSet_disjoint (d d' : Dev nD) (h : d ≠ d') : Disjoint (rowSet d) (rowSet d') :=
  Finset.disjoint_left.mpr fun i h1 h2 => h (Fin.ext ((mem_rowSet.mp h1).symm.trans (mem_rowSet.mp h2)))

/-- The device whose rows an element lies in. -/
def rowDev (i : S1024x512.Idx) : Dev nD := ⟨(i 0 : ℕ) / 32, by have : (i 0 : ℕ) < 1024 := (i 0).isLt; show _ < 32; omega⟩

theorem rowSet_cover : Finset.univ.biUnion rowSet = Finset.univ :=
  Finset.eq_univ_iff_forall.mpr fun i => Finset.mem_biUnion.mpr ⟨rowDev i, Finset.mem_univ _, mem_rowSet.mpr rfl⟩

omit [FloatOps F] in
theorem set_ownRows_p (d : Dev nD) : (ownRows pM d).view.set = rowSet d := View.set_slice_whole _ _
omit [FloatOps F] in
theorem set_ownRows_g (d : Dev nD) : (ownRows gM d).view.set = rowSet d := View.set_slice_whole _ _

/-! ## Contents -/

/-- What the kernel reads of its inputs: the staged arrays. -/
def xstg (c : Dev nD) : (cc0_stg0_0 : Ref sig .tc).ty.Contents (Elt F) :=
  (win0_0.blk (0 : Fin 1)).view.read (Elt F) ((s₀ m ρ).mem ((c : Thread nD τ).loc main_arg0))
def rwstg (c : Dev nD) : (cc0_stg1_0 : Ref sig .tc).ty.Contents (Elt F) :=
  (win0_1.blk (0 : Fin 1)).view.read (Elt F) ((s₀ m ρ).mem ((c : Thread nD τ).loc main_arg1))
def ristg (c : Dev nD) : (cc0_stg2_0 : Ref sig .tc).ty.Contents (Elt F) :=
  (win0_2.blk (0 : Fin 1)).view.read (Elt F) ((s₀ m ρ).mem ((c : Thread nD τ).loc main_arg2))
def ewstg (c : Dev nD) : (cc0_stg3_0 : Ref sig .tc).ty.Contents (Elt F) :=
  (win0_3.blk (0 : Fin 1)).view.read (Elt F) ((s₀ m ρ).mem ((c : Thread nD τ).loc main_arg3))
def swstg (c : Dev nD) : (cc0_stg4_0 : Ref sig .tc).ty.Contents (Elt F) :=
  (win0_4.blk (0 : Fin 1)).view.read (Elt F) ((s₀ m ρ).mem ((c : Thread nD τ).loc main_arg4))

/-- A device's products, of all 1024 tokens with its own four experts. -/
def prod (c : Dev nD) : S1024x512.Idx → Elt F .bf16 :=
  products c (xM.view.readAt (Elt F) rX.toLoadRect (xstg m ρ c)) (rwM.view.readAt (Elt F) rRW.toLoadRect (rwstg m ρ c))
    (riM.view.readAt (Elt F) rRI.toLoadRect (ristg m ρ c)) (ewM.view.readAt (Elt F) rE0.toLoadRect (ewstg m ρ c))
    (ewM.view.readAt (Elt F) rE1.toLoadRect (ewstg m ρ c)) (ewM.view.readAt (Elt F) rE2.toLoadRect (ewstg m ρ c))
    (ewM.view.readAt (Elt F) rE3.toLoadRect (ewstg m ρ c))

/-- The element of rows `32 c …` at the place an element has within its own 32 rows. -/
def rowOf (c : Dev nD) (i : S1024x512.Idx) : S1024x512.Idx :=
  (rOwn c).emb (fun a => match a with
    | ⟨0, _⟩ => ⟨(i 0 : ℕ) % 32, Nat.mod_lt _ (by decide)⟩
    | ⟨1, _⟩ => i 1 : S32x512.Idx)

/-- What a device has gathered in the end: from each device that device's rows for it. -/
def gathered (c : Dev nD) : S1024x512.Idx → Elt F .bf16 := fun i => prod m ρ (rowDev i) (rowOf c i)

theorem rowDev_emb (s : Dev nD) (x : S32x512.Idx) : rowDev ((rOwn s).emb x) = s := by
  have hx : (x 0 : ℕ) < 32 := (x 0).isLt
  refine Fin.ext ?_
  show (((rOwn s).emb x) 0 : ℕ) / 32 = s.val
  rw [rOwn_row]; omega
theorem rowOf_emb (c s : Dev nD) (x : S32x512.Idx) : rowOf c ((rOwn s).emb x) = (rOwn c).emb x := by
  have hx : (x 0 : ℕ) < 32 := (x 0).isLt
  unfold rowOf
  refine congrArg _ (funext fun a => ?_)
  match a with
  | ⟨0, _⟩ =>
    refine Fin.ext ?_
    show (((rOwn s).emb x) 0 : ℕ) % 32 = (x 0 : ℕ)
    rw [rOwn_row]; omega
  | ⟨1, _⟩ => exact Fin.ext (rOwn_col s x)

omit [FloatOps F] in
/-- An element of the rows `32 s …` is one of the places the copies write. -/
theorem exists_emb {s : Dev nD} {i : S1024x512.Idx} (h : i ∈ rowSet s) : ∃ x : S32x512.Idx, (rOwn s).emb x = i := by
  unfold rowSet at h
  rw [← Rect.map_emb_univ] at h
  obtain ⟨x, -, hx⟩ := Finset.mem_map.mp h
  exact ⟨x, hx⟩

/-- Any 32 rows written with the products of `s` for `c`, read at the rows of `s`, are what `c` gathers from `s`. -/
theorem gathered_at (c s : Dev nD) (x : S32x512.Idx) : gathered m ρ c ((rOwn s).emb x) = prod m ρ s ((rOwn c).emb x) := by
  unfold gathered
  rw [rowDev_emb, rowOf_emb]

/-! ## The rows held -/

/-- A device's own products, the rows for `d`. -/
def pRows (c d : Dev nD) (f : S1024x512.Idx → Elt F .bf16) : sProp 𝕄 :=
  ((c : Thread nD τ).loc cc0_scratch0) ↦[(rowSet d : Finset (Idx ((c : Thread nD τ).loc cc0_scratch0)))]{fullShare} f
/-- A device's buffer of arrivals, the rows from `s`. -/
def gRows (c s : Dev nD) (f : S1024x512.Idx → Elt F .bf16) : sProp 𝕄 :=
  ((c : Thread nD τ).loc cc0_scratch1) ↦[(rowSet s : Finset (Idx ((c : Thread nD τ).loc cc0_scratch1)))]{fullShare} f

omit [FloatOps F] in
instance pRows_storable (c d : Dev nD) (f) : BI.Storable (upEmb : UEmb _ 𝕄) (pRows (F := F) c d f) := by unfold pRows; infer_instance
omit [FloatOps F] in
instance gRows_storable (c s : Dev nD) (f) : BI.Storable (upEmb : UEmb _ 𝕄) (gRows (F := F) c s f) := by unfold gRows; infer_instance

omit [FloatOps F] in
theorem pWhole_eq (c : Dev nD) (f : S1024x512.Idx → Elt F .bf16) :
    (((c : Thread nD τ).loc cc0_scratch0) ↦{fullShare} f : sProp 𝕄) = bigSep Finset.univ fun d => pRows c d f :=
  Ring.pointsTo_blocks (ℓ := (c : Thread nD τ).loc cc0_scratch0) rowSet (fun d d' h => rowSet_disjoint d d' h) rowSet_cover f
omit [FloatOps F] in
theorem gWhole_eq (c : Dev nD) (f : S1024x512.Idx → Elt F .bf16) :
    (((c : Thread nD τ).loc cc0_scratch1) ↦{fullShare} f : sProp 𝕄) = bigSep Finset.univ fun s => gRows c s f :=
  Ring.pointsTo_blocks (ℓ := (c : Thread nD τ).loc cc0_scratch1) rowSet (fun d d' h => rowSet_disjoint d d' h) rowSet_cover f

omit [FloatOps F] in
theorem gRows_congr (c s : Dev nD) {f g : S1024x512.Idx → Elt F .bf16} (h : ∀ x : S32x512.Idx, f ((rOwn s).emb x) = g ((rOwn s).emb x)) :
    gRows c s f = gRows c s g := by
  unfold gRows
  refine pointsTo_congr fun i hi => ?_
  obtain ⟨x, rfl⟩ := exists_emb hi
  exact h x

/-! ## The schedule -/

/-- Who pays: at the barrier every other device; at a departure cell the device itself; at an arrival cell the origin. -/
def duties (c : Dev nD) : Kind → Finset (Dev nD)
  | .inl _ => Finset.univ.erase c
  | .inr (.inl d) => if d = c then ∅ else {c}
  | .inr (.inr s) => if s = c then ∅ else {s}

/-- What is handed over: at the barrier by `p`, the rows of `p`'s buffer of arrivals that `c` fills; at a departure
    cell the rows that have left; at an arrival cell the rows that came. -/
def handed (c : Dev nD) (p : Dev nD) : Kind → sProp 𝕄
  | .inl _ => iprop(∃ f, gRows p c f)
  | .inr (.inl d) => pRows c d (prod m ρ c)
  | .inr (.inr s) => gRows c s (gathered m ρ c)

instance handed_storable (c p : Dev nD) (k : Kind) : BI.Storable (upEmb : UEmb _ 𝕄) (handed (F := F) m ρ c p k) := by
  rcases k with _ | _ | _ <;> unfold handed <;> infer_instance

/-- The schedule: one round. -/
def sched : Rounds.Schedule (GSem nD τ sig) (Dev nD) 𝕄 where
  duties g r := if r = 0 ∧ g.1.2 = .tc then (match kindOf g.2 with | some k => duties g.1.1 k | none => ∅) else ∅
  unitless _ := False
  amount g _ _ := match kindOf g.2 with | some (.inl _) => 1 | _ => N
  payload g _ p := match kindOf g.2 with | some k => handed m ρ g.1.1 p k | none => iprop(emp)
  amount_pos g _ _ _ := by
    split
    · exact Nat.one_pos
    · exact N_pos

instance sched_payload_storable (g : GSem nD τ sig) (r : ℕ) (p : Dev nD) :
    BI.Storable (upEmb : UEmb _ 𝕄) ((sched (F := F) m ρ).payload g r p) := by
  show BI.Storable upEmb (match kindOf g.2 with | some k => handed m ρ g.1.1 p k | none => iprop(emp))
  split <;> infer_instance

section Sched
variable (c : Dev nD) (k : Kind)

theorem duties_at : (sched (F := F) m ρ).duties (kcell (c, k)) 0 = duties c k := by
  show (if (0 = 0 ∧ (kcell (c, k)).1.2 = .tc) then (match kindOf (csem k) with | some k => duties c k | none => ∅) else ∅) = _
  rw [if_pos ⟨rfl, rfl⟩, kindOf_csem]
theorem payload_at (p : Dev nD) : (sched (F := F) m ρ).payload (kcell (c, k)) 0 p = handed m ρ c p k := by
  show (match kindOf (csem k) with | some k => handed m ρ c p k | none => iprop(emp)) = _
  rw [kindOf_csem]
theorem amount_at (p : Dev nD) : (sched (F := F) m ρ).amount (kcell (c, k)) 0 p = (match k with | .inl _ => 1 | _ => N) := by
  show (match kindOf (csem k) with | some (.inl _) => 1 | _ => N) = _
  rw [kindOf_csem]
  rcases k with _ | _ <;> rfl
theorem duties_later (g : GSem nD τ sig) (r : ℕ) (h : 1 ≤ r) : (sched (F := F) m ρ).duties g r = ∅ :=
  if_neg fun hh => by omega

/-! At each kind of cell. -/

theorem duties_bar : (sched (F := F) m ρ).duties (barCell c) 0 = Finset.univ.erase c := duties_at m ρ c (.inl ())
theorem duties_out (d : Dev nD) (h : d ≠ c) : (sched (F := F) m ρ).duties (outCell c d) 0 = {c} :=
  (duties_at m ρ c (.inr (.inl d))).trans (if_neg h)
theorem duties_in (s : Dev nD) (h : s ≠ c) : (sched (F := F) m ρ).duties (inCell c s) 0 = {s} :=
  (duties_at m ρ c (.inr (.inr s))).trans (if_neg h)
/-- The cells of a device towards itself are never used. -/
theorem duties_out_self (r : ℕ) : (sched (F := F) m ρ).duties (outCell c c) r = ∅ := by
  rcases r with _ | r
  · exact (duties_at m ρ c (.inr (.inl c))).trans (if_pos rfl)
  · exact duties_later m ρ _ _ (by omega)
theorem duties_in_self (r : ℕ) : (sched (F := F) m ρ).duties (inCell c c) r = ∅ := by
  rcases r with _ | r
  · exact (duties_at m ρ c (.inr (.inr c))).trans (if_pos rfl)
  · exact duties_later m ρ _ _ (by omega)

theorem amount_bar (p : Dev nD) : (sched (F := F) m ρ).amount (barCell c) 0 p = 1 := amount_at m ρ c (.inl ()) p
theorem amount_out (d p : Dev nD) : (sched (F := F) m ρ).amount (outCell c d) 0 p = N := amount_at m ρ c (.inr (.inl d)) p
theorem amount_in (s p : Dev nD) : (sched (F := F) m ρ).amount (inCell c s) 0 p = N := amount_at m ρ c (.inr (.inr s)) p

theorem payload_bar (p : Dev nD) : (sched (F := F) m ρ).payload (barCell c) 0 p = iprop(∃ f, gRows p c f) := payload_at m ρ c (.inl ()) p
theorem payload_out (d p : Dev nD) : (sched (F := F) m ρ).payload (outCell c d) 0 p = pRows c d (prod m ρ c) := payload_at m ρ c (.inr (.inl d)) p
theorem payload_in (s p : Dev nD) : (sched (F := F) m ρ).payload (inCell c s) 0 p = gRows c s (gathered m ρ c) := payload_at m ρ c (.inr (.inr s)) p

theorem expect_bar : (sched (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]; rfl
theorem expect_out (d : Dev nD) (h : d ≠ c) : (sched (F := F) m ρ).expect (outCell c d) 0 = N := by
  unfold Schedule.expect Schedule.amountOf; rw [duties_out m ρ c d h, Finset.sum_singleton, amount_out]
theorem expect_in (s : Dev nD) (h : s ≠ c) : (sched (F := F) m ρ).expect (inCell c s) 0 = N := by
  unfold Schedule.expect Schedule.amountOf; rw [duties_in m ρ c s h, Finset.sum_singleton, amount_in]

/-! What a wait for a whole round brings. -/

theorem rest_bar : bigSep ((sched (F := F) m ρ).duties (barCell c) 0 \ ∅) (fun p => (sched (F := F) m ρ).payload (barCell c) 0 p)
    = bigSepL dists fun r => iprop(∃ f, gRows (peer c r) c f) := by
  rw [Finset.sdiff_empty, duties_bar, bigSep_congr fun p _ => payload_bar m ρ c p, bigSep_others]
theorem rest_out (d : Dev nD) (h : d ≠ c) :
    bigSep ((sched (F := F) m ρ).duties (outCell c d) 0 \ ∅) (fun p => (sched (F := F) m ρ).payload (outCell c d) 0 p) = pRows c d (prod m ρ c) := by
  rw [Finset.sdiff_empty, duties_out m ρ c d h, bigSep_singleton, payload_out]
theorem rest_in (s : Dev nD) (h : s ≠ c) :
    bigSep ((sched (F := F) m ρ).duties (inCell c s) 0 \ ∅) (fun p => (sched (F := F) m ρ).payload (inCell c s) 0 p) = gRows c s (gathered m ρ c) := by
  rw [Finset.sdiff_empty, duties_in m ρ c s h, bigSep_singleton, payload_in]

end Sched

end Cert.MoE

end
-- ==== Proof.Steps.lean ====
/-
One rule for a loop over a list, and one step of each of the four loops of the exchange.
-/
module

public import proofs.«01_k».proof.Proof.Protocol
public import Idealize.ShloMosaic.Lib.Pipeline.Launch
public import Idealize.ShloMosaic.Lib.Pipeline.Kit

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's run of a piece of the body. -/
abbrev run (c : Dev nD) {α : Type} (p : P (F := F) α) (Q : α → sProp 𝕄) : sProp 𝕄 :=
  wp frame (wpE (defs₀ (F := F)) 𝒱₀ (c : Thread nD τ) none) Set.univ p Q

/-! ## Loops -/

theorem each_map {α β : Type} (f : β → P (F := F) PUnit) (g : α → β) (l : List α) : each f (l.map g) = each (fun a => f (g a)) l := by
  induction l with
  | nil => rfl
  | cons a l ih => show (f (g a) >>= fun _ => each f (l.map g)) = _; rw [ih]; rfl

/-- A loop whose each step takes `Φ a` and leaves `Ψ a`, and takes the state from `X` of the elements still ahead to `X` of the rest. -/
theorem run_each {α : Type} (c : Dev nD) (R : sProp 𝕄) [BI.Persistent R] (X : List α → sProp 𝕄) (Φ Ψ : α → sProp 𝕄) (f : α → P (F := F) PUnit)
    (h : ∀ (a : α) (l : List α) (Q : sProp 𝕄), iprop(R ∗ X (a :: l) ∗ Φ a ∗ (iprop(X l ∗ Ψ a) -∗ Q)) ⊢ run c (f a) fun _ => Q) :
    ∀ (l : List α) (Q : sProp 𝕄), iprop(R ∗ X l ∗ bigSepL l Φ ∗ (iprop(X [] ∗ bigSepL l Ψ) -∗ Q)) ⊢ run c (each f l) fun _ => Q
  | [], Q => by
    show _ ⊢ run c (Prog.ret PUnit.unit : P (F := F) PUnit) (fun _ => Q)
    unfold run
    rw [wp_ret]
    iintro ⟨-, HX, -, Hk⟩
    imodintro
    iapply Hk
    isplitl [HX]; · iexact HX
    rw [bigSepL_nil]; iempintro
  | a :: l, Q => by
    show _ ⊢ run c (f a >>= fun _ => each f l) (fun _ => Q)
    unfold run
    rw [wp_bind, bigSepL_cons', bigSepL_cons']
    iintro ⟨#HR, HX, ⟨Ha, Hl⟩, Hk⟩
    iapply (h a l _)
    isplitr; · iexact HR
    isplitl [HX]; · iexact HX
    isplitl [Ha]; · iexact Ha
    iintro ⟨HX, Hb⟩
    iapply (run_each c R X Φ Ψ f h l Q)
    isplitr; · iexact HR
    isplitl [HX]; · iexact HX
    isplitl [Hl]; · iexact Hl
    iintro ⟨HX, Hl⟩
    iapply Hk
    isplitl [HX]; · iexact HX
    isplitl [Hb] <;> iassumption

/-! ## What all devices know -/

/-- The cells of the exchange, all in their first round at least. -/
def records (K : Dev nD × Kind → ℕ) : sProp 𝕄 :=
  iprop((bigSep Finset.univ fun ck : Dev nD × Kind => cellInv ER (sched m ρ) (K ck) (kcell ck))
    ∗ bigSep Finset.univ fun ck : Dev nD × Kind => reached ER (kcell ck) 0)

instance records_persistent (K : Dev nD × Kind → ℕ) : BI.Persistent (records (F := F) m ρ K) := by unfold records; infer_instance

variable (K : Dev nD × Kind → ℕ)

/-- One of many. -/
theorem one_of {I : Type} [Fintype I] [DecidableEq I] (Φ : I → sProp 𝕄) (i : I) : bigSep Finset.univ Φ ⊢ Φ i := bigSep_elim (Finset.mem_univ i)

theorem cell_at (ck : Dev nD × Kind) : records (F := F) m ρ K ⊢ cellInv ER (sched m ρ) (K ck) (kcell ck) := by
  unfold records
  iintro ⟨H, -⟩
  iapply (one_of (fun ck : Dev nD × Kind => (cellInv ER (sched m ρ) (K ck) (kcell ck) : sProp 𝕄)) ck); iexact H
theorem reached_at (ck : Dev nD × Kind) : records (F := F) m ρ K ⊢ reached ER (kcell ck) 0 := by
  unfold records
  iintro ⟨-, H⟩
  iapply (one_of (fun ck : Dev nD × Kind => (reached ER (kcell ck) 0 : sProp 𝕄)) ck); iexact H

/-- What a device still owes, whatever it has waited for. -/
def owing (c : Dev nD) (O : CellTallies nD τ sig Unit) : sProp 𝕄 := iprop(∃ W, owes (c : Thread nD τ) O W)

/-! ## One signal -/

/-- A signal to `d` hands over the device's own rows for `d`. -/
theorem step_signal (c : Dev nD) (r : Fin 31) (l : List (Fin 31)) (Q : sProp 𝕄) :
    iprop(records m ρ K ∗ owing c (oweBar c (r :: l))
        ∗ (dutyTok ER (barCell (peer c r)) 0 c ∗ ∃ f, gRows c (peer c r) f) ∗ (iprop(owing c (oweBar c l) ∗ emp) -∗ Q))
      ⊢ run c (signal (peer c r)) fun _ => Q := by
  unfold run signal owing
  simp only [semSignalWord, Prog.lift, Prog.bind_op, Prog.bind_ret, Prog.pure_eq_ret]
  iintro ⟨#HR, ⟨%W, HO⟩, ⟨Ht, Hg⟩, Hk⟩
  iapply (Rounds.wp_signal 𝒱₀ ER (sched m ρ) (c : Thread nD τ) none (dst := (peer c r : Thread nD τ)) (κ := K (peer c r, .inl ())) (r := 0)
      (d := c) (by rw [duties_bar]; exact Finset.mem_erase.mpr ⟨(peer_ne c r).symm, Finset.mem_univ _⟩)
      ((amount_bar m ρ (peer c r) c).trans (by decide)) () (oweBar c l) rfl) $$ [HO Ht Hg]
  · isplitr; · iapply (cell_at m ρ K (peer c r, .inl ())); iexact HR
    isplitl [HO]; · iexact HO
    isplitl [Ht]; · iexact Ht
    isplitl [Hg]; · rw [payload_bar]; iexact Hg
    iapply (reached_at m ρ K (peer c r, .inl ())); iexact HR
  iintro HO
  rw [wp_ret]; imodintro
  iapply Hk
  isplitl [HO]; · iexists W; iexact HO
  iempintro

/-! ## One copy -/

omit [FloatOps F] in
theorem ownRows_pts_p (c d : Dev nD) (f : S1024x512.Idx → Elt F .bf16) :
    (((ownRows pM d).view.loc (c : Thread nD τ)) ↦[(ownRows pM d).view.set]{fullShare} f : sProp 𝕄) = pRows c d f :=
  congrArg (fun I => (((c : Thread nD τ).loc cc0_scratch0) ↦[I]{fullShare} f : sProp 𝕄)) (set_ownRows_p d)
omit [FloatOps F] in
theorem ownRows_pts_g (c s : Dev nD) (f : S1024x512.Idx → Elt F .bf16) :
    (((ownRows gM s).view.loc (c : Thread nD τ)) ↦[(ownRows gM s).view.set]{fullShare} f : sProp 𝕄) = gRows c s f :=
  congrArg (fun I => (((c : Thread nD τ).loc cc0_scratch1) ↦[I]{fullShare} f : sProp 𝕄)) (set_ownRows_g s)

/-- What a copy of the rows of `s` for `d` leaves on `d`. -/
theorem landed_eq (s d : Dev nD) (fd : S1024x512.Idx → Elt F .bf16) :
    gRows d s ((ownRows gM s).view.write (Elt F) fd ((ownRows pM d).view.read (Elt F) (prod m ρ s)) Finset.univ) = gRows d s (gathered m ρ d) := by
  refine gRows_congr d s fun x => ?_
  rw [gathered_at]
  exact View.write_emb_of_mem (v := (ownRows gM s).view) fd _ (Finset.mem_univ x)

/-- The transfer of the rows for `d`, to the rows of `c` there. -/
theorem run_send (c d : Dev nD) (hd : d ≠ c) (M : Memref sig .tc .vmem S32x512 .bf16) (hM : M = ownRows pM d) (q : DmaSem sig) (hq : q = semOwn outA d)
    {hsc : (ownRows gM c).view.ref.isScScratch = false} {hsrc : M.view.WordExact} {hdst : (ownRows gM c).view.WordExact}
    {hsem : DmaTarget.Typed .vmem (.dma (semOwn inA c)) (.remote (Dev.tc d : Thread nD τ) (ownRows gM c) (.dma q) hsc)}
    {α : Type} {Q : α → sProp 𝕄} {k : PUnit → P (F := F) α} (fd : S1024x512.Idx → Elt F .bf16) (O : CellTallies nD τ sig Unit) (W : Waits sig Unit) :
    iprop(records m ρ K ∗ pRows c d (prod m ρ c) ∗ gRows d c fd ∗ owes (c : Thread nD τ) (O + tallyAt (inCell d c) () N) W
        ∗ dutyTok ER (outCell c d) 0 c ∗ dutyTok ER (inCell d c) 0 c)
      ⊢ iprop(((cred (tallyAt (outCell c d) () N) ∗ owes (c : Thread nD τ) O W) -∗ run c (k ⟨⟩) Q)
          -∗ run c (.op (.enqueueDma M (.remote (Dev.tc d : Thread nD τ) (ownRows gM c) (.dma q) hsc) (.dma (semOwn inA c)) hsrc hdst hsem) k) Q) := by
  subst hM hq
  have h := Rounds.wp_send_pointsTo (defs := defs₀ (F := F)) (Γ := .empty) 𝒱₀ ER (sched m ρ) (c : Thread nD τ) none (κ₁ := K (c, .inr (.inl d))) (κ₂ := K (d, .inr (.inr c)))
    (c' := (d : Thread nD τ)) (src := ownRows pM d) (dst := ownRows gM c) (hsc := hsc) (sS := .dma (semOwn outA d)) (sem := .dma (semOwn inA c))
    (hsrc := hsrc) (hdst := hdst) (hsem := hsem) (k := k) (Q := Q) (q := fullShare)
    (r₁ := 0) (r₂ := 0) (d₁ := c) (d₂ := c) (fs := prod m ρ c) (fd := fd)
    (by rw [duties_out m ρ c d hd]; exact Finset.mem_singleton_self _) (by rw [duties_in m ρ d c hd.symm]; exact Finset.mem_singleton_self _)
    () () N rfl (amount_out m ρ c d c) (amount_in m ρ d c c) O rfl (W := W) (Es := Set.univ)
    (by rw [payload_out, ownRows_pts_p])
    (by rw [payload_in, ownRows_pts_g, landed_eq])
  rw [ownRows_pts_p, ownRows_pts_g] at h
  refine (?_ : _ ⊢ _).trans h
  iintro ⟨#HR, Hp, Hg, HO, H1, H2⟩
  isplitr; · iapply (cell_at m ρ K (c, .inr (.inl d))); iexact HR
  isplitr; · iapply (cell_at m ρ K (d, .inr (.inr c))); iexact HR
  isplitl [Hp]; · iexact Hp
  isplitl [Hg]; · iexact Hg
  isplitl [HO]; · iexact HO
  isplitl [H1]; · iexact H1
  isplitr; · iapply (reached_at m ρ K (c, .inr (.inl d))); iexact HR
  isplitl [H2]; · iexact H2
  iapply (reached_at m ρ K (d, .inr (.inr c))); iexact HR

theorem step_copy (c : Dev nD) (r : Fin 31) (l : List (Fin 31)) (Q : sProp 𝕄) :
    iprop(records m ρ K ∗ owing c (oweIn c (r :: l))
        ∗ (pRows c (peer c r) (prod m ρ c) ∗ (∃ f, gRows (peer c r) c f) ∗ dutyTok ER (outCell c (peer c r)) 0 c ∗ dutyTok ER (inCell (peer c r) c) 0 c)
        ∗ (iprop(owing c (oweIn c l) ∗ cred (tallyAt (outCell c (peer c r)) () N)) -∗ Q))
      ⊢ run c (copyTo c (peer c r, r)) fun _ => Q := by
  unfold copyTo owing
  simp only [Prog.lift]
  iintro ⟨#HR, ⟨%W, HO⟩, ⟨Hp, ⟨%fd, Hg⟩, H1, H2⟩, Hk⟩
  iapply (run_send m ρ K c (peer c r) (peer_ne c r) _ (rowsAt_eq pM c r) _ (semAt_eq_out c r) fd (oweIn c l) W) $$ [HO Hp Hg H1 H2]
  · isplitr; · iexact HR
    isplitl [Hp]; · iexact Hp
    isplitl [Hg]; · iexact Hg
    isplitl [HO]; · iexact HO
    isplitl [H1] <;> iassumption
  iintro ⟨Hc, HO⟩
  unfold run
  rw [wp_ret]; imodintro
  iapply Hk
  isplitl [HO]; · iexists W; iexact HO
  iexact Hc

/-! ## One wait -/

/-- A wait for a copy's whole credit on the cell `k` of `c`. -/
theorem run_wait (c : Dev nD) (k : Kind) (q : DmaSem sig) (hq : .dma q = csem k) {A B : Memref sig .tc .vmem S32x512 .bf16}
    {hA : A.view.WordExact} {hB : B.view.WordExact} (hN : B.view.dmaCredit = N) (hE : (sched (F := F) m ρ).expect (kcell (c, k)) 0 = N)
    (got : sProp 𝕄) (hgot : bigSep ((sched (F := F) m ρ).duties (kcell (c, k)) 0 \ ∅) (fun p => (sched (F := F) m ρ).payload (kcell (c, k)) 0 p) = got)
    (Q : sProp 𝕄) :
    iprop(records m ρ K ∗ owing c 0 ∗ (atPos ER (kcell (c, k)) 0 ∅ 0 ∗ cred (tallyAt (kcell (c, k)) () N))
        ∗ (iprop(owing c 0 ∗ atPos ER (kcell (c, k)) 1 ∅ 0 ∗ got) -∗ Q))
      ⊢ run c (Prog.lift (.waitDma2 q A B hA hB)) fun _ => Q := by
  unfold run owing
  simp only [Prog.lift]
  subst hgot
  iintro ⟨#HR, ⟨%W, HO⟩, ⟨Hat, Hc⟩, Hk⟩
  have hk : ((c : Thread nD τ), (SemLoc.dma q : SemLoc sig)) = kcell (c, k) := by rw [hq]
  have hw := Rounds.wp_wait_rest_token (defs := defs₀ (F := F)) (Γ := .empty) 𝒱₀ ER (sched m ρ) (c : Thread nD τ) none (κ := K (c, k)) (sm := .dma q) (Es := Set.univ)
      (wpE_waitDma2_eq (defs := defs₀ (F := F)) (src := A) (dst := B) (hsrc := hA) (hdst := hB) 𝒱₀ (c : Thread nD τ) none Set.univ) (Set.mem_univ _) (k := (Prog.ret : PUnit → P (F := F) PUnit)) (Q := fun _ => Q) () (O := 0) (W := W) (R := 0) (m := 0) (T := ∅)
      (by rw [Nat.zero_add, hN, hk, hE])
  rw [hk, hN] at hw
  iapply hw $$ [Hc HO Hat]
  · isplitr; · iapply (cell_at m ρ K (c, k)); iexact HR
    isplitl [Hc]; · iexact Hc
    isplitl [HO]; · iexact HO
    isplitr; · rw [MayWait_zero]; iempintro
    iexact Hat
  iintro ⟨HO, Hat, -, Hp⟩
  rw [wp_ret]; imodintro
  iapply Hk
  isplitl [HO]; · iexists _; iexact HO
  isplitl [Hat] <;> iassumption

theorem step_in (c : Dev nD) (r : Fin 31) (l : List (Fin 31)) (Q : sProp 𝕄) :
    iprop(records m ρ K ∗ owing c 0 ∗ (atPos ER (inCell c (peer c r)) 0 ∅ 0 ∗ cred (tallyAt (inCell c (peer c r)) () N))
        ∗ (iprop(owing c 0 ∗ atPos ER (inCell c (peer c r)) 1 ∅ 0 ∗ gRows c (peer c r) (gathered m ρ c)) -∗ Q))
      ⊢ run c (waitIn c r) fun _ => Q :=
  run_wait m ρ K c (.inr (.inr (peer c r))) _ (congrArg SemLoc.dma (semAt_eq_in c r)) (A := topRows pM) (B := rowsAt gM c r) rfl (expect_in m ρ c _ (peer_ne c r)) _
    (rest_in m ρ c _ (peer_ne c r)) Q

theorem step_out (c : Dev nD) (r : Fin 31) (l : List (Fin 31)) (Q : sProp 𝕄) :
    iprop(records m ρ K ∗ owing c 0 ∗ (atPos ER (outCell c (peer c r)) 0 ∅ 0 ∗ cred (tallyAt (outCell c (peer c r)) () N))
        ∗ (iprop(owing c 0 ∗ atPos ER (outCell c (peer c r)) 1 ∅ 0 ∗ pRows c (peer c r) (prod m ρ c)) -∗ Q))
      ⊢ run c (waitOut c r) fun _ => Q :=
  run_wait m ρ K c (.inr (.inl (peer c r))) _ (congrArg SemLoc.dma (semAt_eq_out c r)) (A := ownRows gM c) (B := rowsAt pM c r) rfl (expect_out m ρ c _ (peer_ne c r)) _
    (rest_out m ρ c _ (peer_ne c r)) Q

/-! ## The wait at the barrier -/

theorem run_bar (c : Dev nD) (Q : sProp 𝕄) :
    iprop(records m ρ K ∗ owing c (oweIn c dists) ∗ levAts L lv ∗ atPos ER (barCell c) 0 ∅ 0 ∗ cred (tallyAt (barCell c) () 31)
        ∗ (iprop(owing c (oweIn c dists) ∗ atPos ER (barCell c) 1 ∅ 0 ∗ bigSepL dists fun r => iprop(∃ f, gRows (peer c r) c f)) -∗ Q))
      ⊢ run c (semWaitWord barS 31#32) fun _ => Q := by
  unfold run owing
  simp only [semWaitWord, Prog.lift, Prog.bind_op, Prog.bind_ret, Prog.pure_eq_ret]
  iintro ⟨#HR, ⟨%W, HO⟩, #Hlev, Hat, Hc, Hk⟩
  iapply (Rounds.wp_wait_rest_token 𝒱₀ ER (sched m ρ) (c : Thread nD τ) none (κ := K (c, .inl ()))
      (wpE_semWait_eq 𝒱₀ (c : Thread nD τ) none Set.univ) (Set.mem_univ _) () (O := oweIn c dists) (W := W) (R := 0) (m := 0) (T := ∅)
      (by rw [expect_bar]; decide)) $$ [Hc HO Hat]
  · isplitr; · iapply (cell_at m ρ K (c, .inl ())); iexact HR
    isplitl [Hc]; · iexact Hc
    isplitl [HO]; · iexact HO
    isplitr; · iapply (mayWait_bar c); iexact Hlev
    iexact Hat
  iintro ⟨HO, Hat, -, Hp⟩
  ihave Hp := (Entails.of_eq (rest_bar m ρ c)) $$ Hp
  rw [wp_ret]; imodintro
  iapply Hk
  isplitl [HO]; · iexists _; iexact HO
  isplitl [Hat] <;> iassumption

end Cert.MoE

end
-- ==== Proof.Body.lean ====
/-
The body, run once on a device named by a variable, for any float values.
-/
module

public import proofs.«01_k».proof.Proof.Steps
public import proofs.«01_k».proof.Proof.Gen.KernelIdeal.Points
public import Idealize.ShloMosaic.Lib.Pointwise

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists of assertions side by side -/

omit [FloatOps F] in
theorem bigSepL_zip {α : Type} (l : List α) (Φ Ψ : α → sProp 𝕄) :
    iprop(bigSepL l Φ ∗ bigSepL l Ψ) ⊢ bigSepL l fun a => iprop(Φ a ∗ Ψ a) := by
  induction l with
  | nil => rw [bigSepL_nil, bigSepL_nil, bigSepL_nil]; iintro -; iempintro
  | cons a l ih =>
    rw [bigSepL_cons', bigSepL_cons', bigSepL_cons']
    iintro ⟨⟨Ha, Hl⟩, ⟨Hb, Hm⟩⟩
    isplitl [Ha Hb]
    · isplitl [Ha] <;> iassumption
    iapply ih
    isplitl [Hl] <;> iassumption

omit [FloatOps F] in
theorem bigSepL_unzip {α : Type} (l : List α) (Φ Ψ : α → sProp 𝕄) :
    (bigSepL l fun a => iprop(Φ a ∗ Ψ a)) ⊢ iprop(bigSepL l Φ ∗ bigSepL l Ψ) := by
  induction l with
  | nil => rw [bigSepL_nil, bigSepL_nil, bigSepL_nil]; iintro -; isplitl <;> iempintro
  | cons a l ih =>
    rw [bigSepL_cons', bigSepL_cons', bigSepL_cons']
    iintro ⟨⟨Ha, Hb⟩, H⟩
    ihave H' := ih $$ H
    icases H' with ⟨Hl, Hm⟩
    isplitl [Ha Hl]
    · isplitl [Ha] <;> iassumption
    isplitl [Hb] <;> iassumption

omit [FloatOps F] in
theorem rows_lend (l : List (Fin 31)) (c : Dev nD) (f : S1024x512.Idx → Elt F .bf16) :
    (bigSepL l fun r => gRows c (peer c r) f : sProp 𝕄) ⊢ bigSepL l fun r => iprop(∃ f, gRows c (peer c r) f) :=
  bigSepL_mono fun r _ => by iintro H; iexists f; iexact H

/-! ## The sum -/

/-- The arrivals added up, block by block, onto `acc`. -/
def sumOf (g : S1024x512.Idx → Elt F .bf16) (acc : FVec F S32x512 .f32) : List Row → FVec F S32x512 .f32
  | [] => acc
  | n :: l => sumOf g (addf acc (extf .f32 (gM.view.readAt (Elt F) (rRow n).toLoadRect g) bitsLt_bf16_f32)) l

theorem run_sum (c : Dev nD) (g : S1024x512.Idx → Elt F .bf16) (Q : FVec F S32x512 .f32 → sProp 𝕄) :
    ∀ (l : List Row) (acc : FVec F S32x512 .f32),
      iprop((((c : Thread nD τ).loc cc0_scratch1) ↦{fullShare} g) ∗ ((((c : Thread nD τ).loc cc0_scratch1) ↦{fullShare} g) -∗ Q (sumOf g acc l)))
        ⊢ run c (sumRows acc l) Q
  | [], acc => by
    show _ ⊢ run c (Prog.ret acc : P (F := F) (FVec F S32x512 .f32)) Q
    unfold run
    rw [wp_ret, sumOf]
    iintro ⟨Hg, Hk⟩
    imodintro
    iapply Hk; iexact Hg
  | n :: l, acc => by
    rw [sumRows]
    simp only [Prog.lift, Prog.bind_op, Prog.bind_ret]
    unfold run
    rw [sumOf]
    iintro ⟨Hg, Hk⟩
    iapply (wp_load 𝒱₀ (c : Thread nD τ) none Set.univ (m := gM) (Finset.subset_univ _)) $$ Hg; iintro Hg
    iapply (run_sum c g Q l _)
    isplitl [Hg] <;> iassumption

/-- The device's block of the result. -/
def total (c : Dev nD) : FVec F S32x512 .f32 :=
  sumOf (gathered m ρ c) (k0_pay8 (xM.view.readAt (Elt F) (rXc c).toLoadRect (xstg m ρ c)) (swM.view.readAt (Elt F) rSW.toLoadRect (swstg m ρ c))) rows

/-! ## Whole buffers written; own rows -/

omit [FloatOps F] in
theorem hz : (![0, 0] : Fin 2 → ℕ) = fun _ => 0 := funext fun a => by fin_cases a <;> rfl
omit [FloatOps F] in
theorem write_p (f w : S1024x512.Idx → Elt F .bf16) :
    ((pM : Memref sig .tc .vmem S1024x512 .bf16).access rP : View sig .tc _ _ _).write (Elt F) f w Finset.univ = w :=
  Memref.write_access_unit_zero_univ (Elt F) cc0_scratch0 hz _ f w
omit [FloatOps F] in
theorem write_o (f w : S32x512.Idx → Elt F .f32) :
    ((oM : Memref sig .tc .vmem S32x512 .f32).access rO : View sig .tc _ _ _).write (Elt F) f w Finset.univ = w :=
  Memref.write_access_unit_zero_univ (Elt F) cc0_stg5_0 hz _ f w

theorem prod_eq (c : Dev nD) :
    prod m ρ c = products c (xM.view.readAt (Elt F) rX.toLoadRect (xstg m ρ c)) (rwM.view.readAt (Elt F) rRW.toLoadRect (rwstg m ρ c))
      (riM.view.readAt (Elt F) rRI.toLoadRect (ristg m ρ c)) (ewM.view.readAt (Elt F) rE0.toLoadRect (ewstg m ρ c))
      (ewM.view.readAt (Elt F) rE1.toLoadRect (ewstg m ρ c)) (ewM.view.readAt (Elt F) rE2.toLoadRect (ewstg m ρ c))
      (ewM.view.readAt (Elt F) rE3.toLoadRect (ewstg m ρ c)) := rfl

omit [FloatOps F] in
theorem sub_p (c : Dev nD) : ((pM : Memref sig .tc .vmem S1024x512 .bf16).access (rLoc c)).set ⊆ rowSet c := by
  rw [rLoc_eq]; exact (set_ownRows_p c).le
omit [FloatOps F] in
theorem sub_g (c : Dev nD) : ((gM : Memref sig .tc .vmem S1024x512 .bf16).access (rLoc c)).set ⊆ rowSet c := by
  rw [rLoc_eq]; exact (set_ownRows_g c).le

/-- The device's own rows, copied by a load and a store. -/
theorem own_eq (c : Dev nD) (f : S1024x512.Idx → Elt F .bf16) :
    gRows c c (((gM : Memref sig .tc .vmem S1024x512 .bf16).access (rLoc c)).write (Elt F) f
        (k0_pay7 (((pM : Memref sig .tc .vmem S1024x512 .bf16).access (rLoc c)).read (Elt F) (prod m ρ c))) Finset.univ)
      = gRows c c (gathered m ρ c) := by
  have hp : ∀ v : Vec F S32x512 .bf16, k0_pay7 v = v := fun v => by
    unfold k0_pay7; exact shapeCast_id v _
  rw [hp]
  refine gRows_congr c c fun x => ?_
  rw [gathered_at]
  have hx : ∀ x : S32x512.Idx, (rOwn c).emb x = (rLoc c).emb x := fun x => by
    funext a; apply Fin.ext
    rw [Rect.emb_apply, Rect.emb_apply]
    show k0_off3 c a + _ = k0_off5 c a + _
    rw [k0_off3_eq, k0_off5_eq]; rfl
  rw [hx]
  exact View.write_emb_of_mem (v := (gM : Memref sig .tc .vmem S1024x512 .bf16).access (rLoc c)) f _ (Finset.mem_univ x)

theorem own_pts (c : Dev nD) (f : S1024x512.Idx → Elt F .bf16) :
    ((((gM : Memref sig .tc .vmem S1024x512 .bf16).access (rLoc c)).loc (c : Thread nD τ)) ↦[rowSet c]{fullShare}
        (((gM : Memref sig .tc .vmem S1024x512 .bf16).access (rLoc c)).write (Elt F) f
          (k0_pay7 (((pM : Memref sig .tc .vmem S1024x512 .bf16).access (rLoc c)).read (Elt F) (prod m ρ c))) Finset.univ) : sProp 𝕄)
      ⊢ gRows c c (gathered m ρ c) := Entails.of_eq (own_eq m ρ c f)

/-! ## What a device starts from -/

variable (K : Dev nD × Kind → ℕ)

/-- The tokens a device pays with: at every other barrier, for its own departures, for its arrivals elsewhere. -/
def payToks (c : Dev nD) : sProp 𝕄 :=
  iprop((bigSepL dists fun r => dutyTok ER (barCell (peer c r)) 0 c) ∗ (bigSepL dists fun r => dutyTok ER (outCell c (peer c r)) 0 c)
    ∗ bigSepL dists fun r => dutyTok ER (inCell (peer c r) c) 0 c)

/-- What is its alone: its places at its cells, and the tokens. -/
def linear (c : Dev nD) : sProp 𝕄 := iprop((bigSep Finset.univ fun k : Kind => atPos ER (kcell (c, k)) 0 ∅ 0) ∗ payToks c)

/-- Its places one by one: the barrier, the departures, the arrivals. -/
theorem places_eq (c : Dev nD) :
    (bigSep Finset.univ fun k : Kind => atPos ER (kcell (c, k)) 0 ∅ 0 : sProp 𝕄)
      = iprop(atPos ER (barCell c) 0 ∅ 0 ∗ (atPos ER (outCell c c) 0 ∅ 0 ∗ bigSepL dists fun r => atPos ER (outCell c (peer c r)) 0 ∅ 0)
        ∗ (atPos ER (inCell c c) 0 ∅ 0 ∗ bigSepL dists fun r => atPos ER (inCell c (peer c r)) 0 ∅ 0)) := by
  rw [bigSep_univ_sum, bigSep_univ_sum, bigSep_univ_of_subsingleton (), bigSep_devs c, bigSep_devs c]; rfl

/-! ## The cells close -/

theorem close_one (c : Dev nD) (k : Kind) (R : ℕ) (h : ∀ r, R ≤ r → (sched (F := F) m ρ).duties (kcell (c, k)) r = ∅) :
    iprop(records m ρ K ∗ atPos ER (kcell (c, k)) R ∅ 0) ⊢ |={Set.univ}=> semVal (kcell (c, k)) 0 := by
  iintro ⟨#HR, H⟩
  iapply (Rounds.cell_close ER (sched m ρ) (Set.mem_univ (K (c, k))) (fun h => h) (R := R) h)
  isplitr; · iapply (cell_at m ρ K (c, k)); iexact HR
  iexact H

theorem close_list (c : Dev nD) (kd : Fin 31 → Kind) (l : List (Fin 31)) :
    iprop(records m ρ K ∗ bigSepL l fun r => atPos ER (kcell (c, kd r)) 1 ∅ 0) ⊢ |={Set.univ}=> bigSepL l fun r => semVal (kcell (c, kd r)) 0 := by
  induction l with
  | nil => rw [bigSepL_nil, bigSepL_nil]; iintro -; imodintro; iempintro
  | cons r l ih =>
    rw [bigSepL_cons', bigSepL_cons']
    iintro ⟨#HR, Hr, Hl⟩
    imod (close_one m ρ K c (kd r) 1 (duties_later m ρ _)) $$ [Hr] with Hv
    · isplitr; · iexact HR
      iexact Hr
    imod ih $$ [Hl] with Hl
    · isplitr; · iexact HR
      iexact Hl
    imodintro
    isplitl [Hv] <;> iassumption

/-- The counters of a device's cells, all zero. -/
def zeros (c : Dev nD) : sProp 𝕄 := bigSep Finset.univ fun k : Kind => semVal (kcell (c, k)) 0

theorem zeros_eq (c : Dev nD) :
    (zeros c : sProp 𝕄)
      = iprop(semVal (barCell c) 0 ∗ (semVal (outCell c c) 0 ∗ bigSepL dists fun r => semVal (outCell c (peer c r)) 0)
        ∗ (semVal (inCell c c) 0 ∗ bigSepL dists fun r => semVal (inCell c (peer c r)) 0)) := by
  unfold zeros
  rw [bigSep_univ_sum, bigSep_univ_sum, bigSep_univ_of_subsingleton (), bigSep_devs c, bigSep_devs c]; rfl

theorem close_all (c : Dev nD) :
    iprop(records m ρ K ∗ atPos ER (barCell c) 1 ∅ 0 ∗ (atPos ER (outCell c c) 0 ∅ 0 ∗ bigSepL dists fun r => atPos ER (outCell c (peer c r)) 1 ∅ 0)
        ∗ (atPos ER (inCell c c) 0 ∅ 0 ∗ bigSepL dists fun r => atPos ER (inCell c (peer c r)) 1 ∅ 0))
      ⊢ |={Set.univ}=> zeros c := by
  rw [zeros_eq]
  iintro ⟨#HR, HB, ⟨HO, HOs⟩, HI, HIs⟩
  imod (close_one m ρ K c (.inl ()) 1 (duties_later m ρ _)) $$ [HB] with HB
  · isplitr; · iexact HR
    iexact HB
  imod (close_one m ρ K c (.inr (.inl c)) 0 (fun r _ => duties_out_self m ρ c r)) $$ [HO] with HO
  · isplitr; · iexact HR
    iexact HO
  imod (close_one m ρ K c (.inr (.inr c)) 0 (fun r _ => duties_in_self m ρ c r)) $$ [HI] with HI
  · isplitr; · iexact HR
    iexact HI
  imod (close_list m ρ K c (fun r => .inr (.inl (peer c r))) dists) $$ [HOs] with HOs
  · isplitr; · iexact HR
    iexact HOs
  imod (close_list m ρ K c (fun r => .inr (.inr (peer c r))) dists) $$ [HIs] with HIs
  · isplitr; · iexact HR
    iexact HIs
  imodintro
  isplitl [HB]; · iexact HB
  isplitl [HO HOs]
  · isplitl [HO] <;> iassumption
  isplitl [HI] <;> iassumption

/-! ## The body -/

/-- A buffer of the device, whole. -/
abbrev held (c : Dev nD) (b : Ref sig .tc) (X : Buf (Elt F) ((c : Thread nD τ).loc b)) : sProp 𝕄 := ((c : Thread nD τ).loc b) ↦{fullShare} X

/-- The inputs as staged. -/
def inputs (c : Dev nD) : sProp 𝕄 :=
  iprop(held c cc0_stg0_0 (xstg m ρ c) ∗ held c cc0_stg1_0 (rwstg m ρ c) ∗ held c cc0_stg2_0 (ristg m ρ c) ∗ held c cc0_stg3_0 (ewstg m ρ c)
    ∗ held c cc0_stg4_0 (swstg m ρ c))

def pre (c : Dev nD) : sProp 𝕄 :=
  iprop((records m ρ K ∗ linear c ∗ cred (tallyAt (barCell c) () 31) ∗ (bigSepL dists fun r => cred (tallyAt (inCell c (peer c r)) () N)) ∗ levAts L lv)
    ∗ ((∃ f, held c cc0_scratch0 f) ∗ ∃ f, held c cc0_scratch1 f) ∗ owing c (O₀ c) ∗ inputs m ρ c ∗ ∃ f, held c cc0_stg5_0 f)

def post (c : Dev nD) : sProp 𝕄 :=
  iprop((held c cc0_scratch0 (prod m ρ c) ∗ held c cc0_scratch1 (gathered m ρ c) ∗ zeros c) ∗ owing c 0 ∗ inputs m ρ c ∗ held c cc0_stg5_0 (total m ρ c))

set_option maxHeartbeats 1600000 in
theorem run_body (c : Dev nD) (Q : PUnit → sProp 𝕄) : iprop(pre m ρ K c ∗ (post m ρ c -∗ Q ⟨⟩)) ⊢ run c loopBody Q := by
  unfold pre linear payToks inputs
  rw [places_eq]
  unfold run loopBody bodyAt
  simp only [Prog.lift, Prog.bind_op, Prog.bind_ret, wp_deviceId]
  iintro ⟨⟨⟨#HR, ⟨⟨HatB, ⟨HaO, HaOs⟩, HaI, HaIs⟩, HtB, HtO, HtI⟩, HcB, HcI, #Hlev⟩, ⟨⟨%p0, Hp⟩, %g0, Hg⟩, HO, ⟨Hx, Hrw, Hri, Hew, Hsw⟩, %o0, Ho⟩, Hk⟩
  -- the signals lend the other devices their rows of the buffer of arrivals
  ihave Hg := (Entails.of_eq ((gWhole_eq c g0).trans (bigSep_devs c _))) $$ Hg
  icases Hg with ⟨Hgc, Hgs⟩
  ihave Hgs := (rows_lend dists c g0) $$ Hgs
  ihave Hsig := (bigSepL_zip dists _ _) $$ [HtB Hgs]
  · isplitl [HtB]; · iexact HtB
    iexact Hgs
  rw [wp_bind, sigDevs_eq, each_map]
  iapply (run_each c (records m ρ K) (fun l => owing c (oweBar c l)) _ (fun _ => iprop(emp)) _ (step_signal m ρ K c) dists _)
  isplitr; · iexact HR
  isplitl [HO]; · iexact HO
  isplitl [Hsig]; · iexact Hsig
  iintro ⟨HO, -⟩
  -- the barrier: the others lend theirs
  rw [wp_bind]
  iapply (run_bar m ρ K c _)
  isplitr; · iexact HR
  isplitl [HO]; · iexact HO
  isplitr; · iexact Hlev
  isplitl [HatB]; · iexact HatB
  isplitl [HcB]; · iexact HcB
  iintro ⟨HO, HatB, Hlent⟩
  -- the device's products
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := riM) (Finset.subset_univ _)) $$ Hri; iintro Hri
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := pM) (Finset.subset_univ _)) $$ Hp; iintro Hp
  iapply (wp_store 𝒱₀ (c : Thread nD τ) none Set.univ (m := pM) (r := rP) (Mk := Finset.univ) (Finset.subset_univ _)) $$ Hp; iintro Hp
  rw [write_p, ← prod_eq]
  ihave Hp := (show held c cc0_scratch0 (prod m ρ c) ⊢ iprop(pRows c c (prod m ρ c) ∗ bigSepL dists fun r => pRows c (peer c r) (prod m ρ c)) from
    Entails.of_eq ((pWhole_eq c (prod m ρ c)).trans (bigSep_devs c _))) $$ Hp
  icases Hp with ⟨Hpc, Hps⟩
  -- the copies
  ihave H1 := (bigSepL_zip dists _ _) $$ [HtO HtI]
  · isplitl [HtO]; · iexact HtO
    iexact HtI
  ihave H1 := (bigSepL_zip dists _ _) $$ [Hlent H1]
  · isplitl [Hlent]; · iexact Hlent
    iexact H1
  ihave H1 := (bigSepL_zip dists _ _) $$ [Hps H1]
  · isplitl [Hps]; · iexact Hps
    iexact H1
  rw [wp_bind, copyDevs_eq, each_map]
  iapply (run_each c (records m ρ K) (fun l => owing c (oweIn c l)) _ _ _ (step_copy m ρ K c) dists _)
  isplitr; · iexact HR
  isplitl [HO]; · iexact HO
  isplitl [H1]; · iexact H1
  iintro ⟨HO, HcO⟩
  -- the device's own rows
  unfold pRows
  iapply (wp_load_rect 𝒱₀ (c : Thread nD τ) none Set.univ (m := pM) (r := rLoc c) (S := rowSet c) (sub_p c)) $$ Hpc; iintro Hpc
  unfold gRows
  iapply (wp_load_rect 𝒱₀ (c : Thread nD τ) none Set.univ (m := gM) (r := rLoc c) (S := rowSet c) (sub_g c)) $$ Hgc; iintro Hgc
  iapply (wp_store 𝒱₀ (c : Thread nD τ) none Set.univ (m := gM) (r := rLoc c) (Mk := Finset.univ) (S := rowSet c) (sub_g c)) $$ Hgc; iintro Hgc
  ihave Hgc := (own_pts m ρ c g0) $$ Hgc
  -- the shared product's operands
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  -- the arrivals
  ihave H1 := (bigSepL_zip dists _ _) $$ [HaIs HcI]
  · isplitl [HaIs]; · iexact HaIs
    iexact HcI
  rw [wp_bind]
  iapply (run_each c (records m ρ K) (fun _ => owing c 0) _ _ _ (step_in m ρ K c) dists _)
  isplitr; · iexact HR
  isplitl [HO]; · iexact HO
  isplitl [H1]; · iexact H1
  iintro ⟨HO, H1⟩
  ihave H1 := (bigSepL_unzip dists _ _) $$ H1
  icases H1 with ⟨HaIs, Hgs⟩
  ihave Hg := (show iprop(gRows c c (gathered m ρ c) ∗ bigSepL dists fun r => gRows c (peer c r) (gathered m ρ c)) ⊢ held c cc0_scratch1 (gathered m ρ c) from
    Entails.of_eq ((gWhole_eq c (gathered m ρ c)).trans (bigSep_devs c _)).symm) $$ [Hgc Hgs]
  · isplitl [Hgc]; · iexact Hgc
    iexact Hgs
  -- the sum
  rw [wp_bind]
  iapply (run_sum c (gathered m ρ c) _ rows _)
  isplitl [Hg]; · iexact Hg
  iintro Hg
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  -- the departures
  ihave H1 := (bigSepL_zip dists _ _) $$ [HaOs HcO]
  · isplitl [HaOs]; · iexact HaOs
    iexact HcO
  iapply (wp_fupd frame (wpE (defs₀ (F := F)) 𝒱₀ (c : Thread nD τ) none) Set.univ _ _)
  iapply (run_each c (records m ρ K) (fun _ => owing c 0) _ _ _ (step_out m ρ K c) dists _)
  isplitr; · iexact HR
  isplitl [HO]; · iexact HO
  isplitl [H1]; · iexact H1
  iintro ⟨HO, H1⟩
  ihave H1 := (bigSepL_unzip dists _ _) $$ H1
  icases H1 with ⟨HaOs, Hps⟩
  ihave Hp := (show iprop(pRows c c (prod m ρ c) ∗ bigSepL dists fun r => pRows c (peer c r) (prod m ρ c)) ⊢ held c cc0_scratch0 (prod m ρ c) from
    Entails.of_eq ((pWhole_eq c (prod m ρ c)).trans (bigSep_devs c _)).symm) $$ [Hpc Hps]
  · isplitl [Hpc]; · unfold pRows; iexact Hpc
    iexact Hps
  -- the cells close
  imod (close_all m ρ K c) $$ [HatB HaO HaOs HaI HaIs] with Hz
  · isplitr; · iexact HR
    isplitl [HatB]; · iexact HatB
    isplitl [HaO HaOs]
    · isplitl [HaO]; · iexact HaO
      iexact HaOs
    isplitl [HaI]; · iexact HaI
    iexact HaIs
  imodintro
  iapply Hk
  unfold post inputs
  isplitl [Hp Hg Hz]
  · isplitl [Hp]; · iexact Hp
    isplitl [Hg] <;> iassumption
  isplitl [HO]; · iexact HO
  isplitl [Hx Hrw Hri Hew Hsw]
  · isplitl [Hx]; · iexact Hx
    isplitl [Hrw]; · iexact Hrw
    isplitl [Hri]; · iexact Hri
    isplitl [Hew]; · iexact Hew
    iexact Hsw
  iexact Ho

end Cert.MoE

end
-- ==== Proof.Launch.lean ====
/-
The launch: the pipeline's proof data, the body's obligation, the cells and tokens made and dealt, and the run of
@main on all 32 devices, for any float values.
-/
module

public import proofs.«01_k».proof.Proof.Body

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What a device starts from besides its buffers and debts. -/
def start (c : Dev nD) : sProp 𝕄 :=
  iprop((∃ K, records m ρ K ∗ linear c) ∗ cred (tallyAt (barCell c) () 31)
    ∗ (bigSepL dists fun r => cred (tallyAt (inCell c (peer c r)) () N)) ∗ levAts L lv)

def Φ₀ (c : Dev nD) : sProp 𝕄 := iprop(start m ρ c ∗ ((∃ f, held c cc0_scratch0 f) ∗ ∃ f, held c cc0_scratch1 f))
def Φ₁ (c : Dev nD) : sProp 𝕄 := iprop(held c cc0_scratch0 (prod m ρ c) ∗ held c cc0_scratch1 (gathered m ρ c) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rwstg m ρ c
    | ⟨2, _⟩ => ristg m ρ c
    | ⟨3, _⟩ => ewstg m ρ c
    | ⟨4, _⟩ => swstg m ρ c
    | ⟨5, _⟩ => total m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The body's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_out (c : Dev nD) (b : Ref sig .tc) (X : b.ty.Contents (Elt F)) : stg c b X ⊢ held c b X := by
  iintro ⟨%f, %h, H⟩; subst h; iexact H
omit [FloatOps F] in
theorem stg_in (c : Dev nD) (b : Ref sig .tc) (X : b.ty.Contents (Elt F)) : held c b X ⊢ stg c b X := by
  iintro H; iexists X; isplitr; · (ipureintro; rfl)
  iexact H
omit [FloatOps F] in
theorem stg_before (c : Dev nD) (b : Ref sig .tc) {ι : Type} (Y : ι → b.ty.Contents (Elt F)) (X : b.ty.Contents (Elt F)) (h : ∀ d, Y d = X) :
    iprop(∃ d, stg c b (Y d)) ⊢ held c b X := by
  iintro ⟨%d, H⟩
  iapply (stg_out c b X)
  rw [← h d]; iexact H

abbrev t₀ : Fin cfg0.N := t0_0

theorem before_0 (c : Dev nD) (d) : (dats m ρ 0 c).before (0 : Fin 6) t₀ d = xstg m ρ c := by unfold Dat.before; rw [if_pos (fetch0_0 t₀)]; rfl
theorem before_1 (c : Dev nD) (d) : (dats m ρ 0 c).before (1 : Fin 6) t₀ d = rwstg m ρ c := by unfold Dat.before; rw [if_pos (fetch0_1 t₀)]; rfl
theorem before_2 (c : Dev nD) (d) : (dats m ρ 0 c).before (2 : Fin 6) t₀ d = ristg m ρ c := by unfold Dat.before; rw [if_pos (fetch0_2 t₀)]; rfl
theorem before_3 (c : Dev nD) (d) : (dats m ρ 0 c).before (3 : Fin 6) t₀ d = ewstg m ρ c := by unfold Dat.before; rw [if_pos (fetch0_3 t₀)]; rfl
theorem before_4 (c : Dev nD) (d) : (dats m ρ 0 c).before (4 : Fin 6) t₀ d = swstg m ρ c := by unfold Dat.before; rw [if_pos (fetch0_4 t₀)]; rfl

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (rwstg m ρ c)
    ∗ stg c cc0_stg2_0 (ristg m ρ c) ∗ stg c cc0_stg3_0 (ewstg m ρ c) ∗ stg c cc0_stg4_0 (swstg m ρ c) ∗ stg c cc0_stg5_0 (total m ρ c))

theorem pre_intro (c : Dev nD) : bodyPre m ρ c ⊢ iprop(∃ K, pre m ρ K c) := by
  unfold bodyPre Φ₀ start Dat.owesAt Pipeline.owesWithin
  rw [show (dats m ρ 0 c).owed t₀.castSucc = O₀ c from rfl]
  iintro ⟨⟨⟨⟨%K, HR, Hl⟩, HcB, HcI, Hlev⟩, Hscr⟩, ⟨%W, -, HO⟩, H0, H1, H2, H3, H4, ⟨%d5, %o, -, H5⟩⟩
  ihave H0 := (stg_before c cc0_stg0_0 _ _ (before_0 m ρ c)) $$ H0
  ihave H1 := (stg_before c cc0_stg1_0 _ _ (before_1 m ρ c)) $$ H1
  ihave H2 := (stg_before c cc0_stg2_0 _ _ (before_2 m ρ c)) $$ H2
  ihave H3 := (stg_before c cc0_stg3_0 _ _ (before_3 m ρ c)) $$ H3
  ihave H4 := (stg_before c cc0_stg4_0 _ _ (before_4 m ρ c)) $$ H4
  iexists K
  unfold pre owing inputs
  isplitl [HR Hl HcB HcI Hlev]
  · isplitl [HR]; · iexact HR
    isplitl [Hl]; · iexact Hl
    isplitl [HcB]; · iexact HcB
    isplitl [HcI] <;> iassumption
  isplitl [Hscr]; · iexact Hscr
  isplitl [HO]; · iexists W; iexact HO
  isplitl [H0 H1 H2 H3 H4]
  · isplitl [H0]; · iexact H0
    isplitl [H1]; · iexact H1
    isplitl [H2]; · iexact H2
    isplitl [H3] <;> iassumption
  iexists o; iexact H5

theorem post_elim (c : Dev nD) : post m ρ c ⊢ bodyPost m ρ c := by
  unfold post bodyPost Φ₁ owing inputs Dat.owesAt Pipeline.owesWithin
  rw [show (dats m ρ 0 c).owed t₀.succ = 0 from rfl]
  iintro ⟨Hs, ⟨%W, HO⟩, ⟨H0, H1, H2, H3, H4⟩, H5⟩
  isplitl [Hs]; · iexact Hs
  isplitl [HO]
  · iexists W; isplitr; · (ipureintro; exact fun _ _ => Or.inl trivial)
    iexact HO
  isplitl [H0]; · iapply (stg_in c cc0_stg0_0 _); iexact H0
  isplitl [H1]; · iapply (stg_in c cc0_stg1_0 _); iexact H1
  isplitl [H2]; · iapply (stg_in c cc0_stg2_0 _); iexact H2
  isplitl [H3]; · iapply (stg_in c cc0_stg3_0 _); iexact H3
  isplitl [H4]; · iapply (stg_in c cc0_stg4_0 _); iexact H4
  iapply (stg_in c cc0_stg5_0 _); iexact H5

theorem sound_body (c : Dev nD) : bodyPre m ρ c ⊢ run c (loopBody (F := F)) (fun _ => bodyPost m ρ c) := by
  iintro H
  ihave H := (pre_intro m ρ c) $$ H
  icases H with ⟨%K, H⟩
  iapply (run_body m ρ K c fun _ => bodyPost m ρ c)
  isplitl [H]; · iexact H
  iintro H
  iapply (post_elim m ρ c); iexact H

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c
    (cc0_body (F := F) xM (Memref.isWhole_whole _) rwM (Memref.isWhole_whole _) riM (Memref.isWhole_whole _) ewM (Memref.isWhole_whole _)
      swM (Memref.isWhole_whole _) oM (Memref.isWhole_whole _) pM (Memref.isWhole_whole _) gM (Memref.isWhole_whole _) outA inA) (fun _ => bodyPost m ρ c)
  rw [body_eq]
  exact sound_body m ρ c

end Cert.MoE

end
-- ==== Proof.Run.lean ====
/-
Cells and tokens made at launch and dealt to the devices; the run of @main.
-/
module

public import proofs.«01_k».proof.Proof.Launch
public import Idealize.ShloMosaic.Lib.Pipeline.CollectiveSegs

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: all cells but the barrier's. -/
abbrev osem (k : Dev nD ⊕ Dev nD) : SemLoc sig := csem (.inr k)

theorem ownSemFacts : Pipeline.OwnSemFacts cfg0.spec osem := by decide +kernel

theorem share_eq (c : Dev nD) (w : Fin cfg0.W) : (dats m ρ 0 c).share w = fullShare := by unfold Dat.share; split <;> rfl

def allCells : Finset (GSem nD τ sig) := Finset.univ.map ⟨kcell, kcell_injective⟩

/-- Every token made: at the barrier of `c` one for each payer, at its departure cells its own, at its arrival cells the origin's. -/
abbrev tokOf (x : Dev nD × (Dev nD ⊕ (Dev nD ⊕ Dev nD))) : GSem nD τ sig × ℕ × Dev nD := match x.2 with
  | .inl p => (barCell x.1, 0, p)
  | .inr (.inl d) => (outCell x.1 d, 0, x.1)
  | .inr (.inr s) => (inCell x.1 s, 0, s)

theorem tokOf_injective : Function.Injective tokOf := by
  rintro ⟨c, j⟩ ⟨c', j'⟩ h
  have hcell : ∀ (x : Dev nD × (Dev nD ⊕ (Dev nD ⊕ Dev nD))), (tokOf x).1 = kcell (x.1, x.2.map (fun _ => ()) id) := by
    rintro ⟨c, _ | _ | _⟩ <;> rfl
  have h1 := kcell_injective (((hcell (c, j)).symm.trans (congrArg Prod.fst h)).trans (hcell (c', j')))
  have hc : c = c' := congrArg Prod.fst h1
  have hk := congrArg Prod.snd h1
  subst hc
  rcases j with p | k <;> rcases j' with p' | k'
  · have : p = p' := congrArg (fun x : GSem nD τ sig × ℕ × Dev nD => x.2.2) h
    rw [this]
  · cases hk
  · cases hk
  · have : k = k' := Sum.inr_injective hk
    rw [this]

def allToks : Finset (GSem nD τ sig × ℕ × Dev nD) := Finset.univ.map ⟨tokOf, tokOf_injective⟩

def u₀ : UU :=
  (initOf (Pipeline.cells cfgs cellOf_inj) (Pipeline.launchToks cfgs cellOf_inj), initOf allCells allToks)

/-- The tokens of a device's own cells, as made. -/
def madeToks (c : Dev nD) : sProp 𝕄 :=
  iprop((bigSep Finset.univ fun p : Dev nD => dutyTok ER (barCell c) 0 p) ∗ (bigSep Finset.univ fun d : Dev nD => dutyTok ER (outCell c d) 0 c)
    ∗ bigSep Finset.univ fun s : Dev nD => dutyTok ER (inCell c s) 0 s)

/-- What the launch deals a device at first. -/
def G (c : Dev nD) : sProp 𝕄 :=
  iprop((bigSep Finset.univ fun k : Kind => roundState ER (sched m ρ) (kcell (c, k)) 0)
    ∗ (bigSep Finset.univ fun k : Kind => iprop(atPos ER (kcell (c, k)) 0 ∅ 0 ∗ reached ER (kcell (c, k)) 0)) ∗ madeToks c)

/-- What a device has after the cells are shared and the tokens swapped. -/
def G' (c : Dev nD) : sProp 𝕄 := iprop(∃ K, records m ρ K ∗ linear c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kind => Φ (kcell (c, k)) := by
    unfold allCells; rw [bigSep_map, bigSep_univ_prod]; rfl
  have hT : bigSep allToks (fun x => (dutyTok ER x.1 x.2.1 x.2.2 : sProp 𝕄)) = bigSep Finset.univ fun c : Dev nD => madeToks c := by
    unfold allToks; rw [bigSep_map, bigSep_univ_prod]
    exact bigSep_congr fun c _ => by unfold madeToks; rw [bigSep_univ_sum, bigSep_univ_sum]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's counters: the launch's barrier semaphore and the kernel's own semaphores. -/
theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros Pipeline.ownSems0
  rw [unscopedSems0_eq, bigSep_univ_sum, bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ madeToks c) := by
  unfold G
  iintro ⟨Hos, Hus, Hst, Hat, Htok⟩
  ihave Hv := (Entails.of_eq (sems0_eq (F := F) c).symm) $$ [Hos Hus]
  · isplitl [Hus] <;> iassumption
  imod (show iprop(zeros c ∗ bigSep Finset.univ fun k : Kind => roundState ER (sched m ρ) (kcell (c, k)) 0)
      ⊢ (|={Set.univ}=> bigSep Finset.univ fun k => iprop(∃ κ : ℕ, cellInv ER (sched m ρ) κ (kcell (c, k))) : sProp 𝕄) from by
        unfold zeros
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens swapped -/

omit [FloatOps F] in
/-- Of one for every device, those for the others. -/
theorem to_others (c : Dev nD) (Φ : Dev nD → sProp 𝕄) : bigSep Finset.univ Φ ⊢ bigSepL dists fun r => Φ (peer c r) := by
  rw [bigSep_devs c Φ]
  iintro ⟨-, H⟩
  iexact H

omit [FloatOps F] in
theorem all_to_others (Φ : Dev nD → Dev nD → sProp 𝕄) :
    (bigSep Finset.univ fun c => bigSep Finset.univ (Φ c)) ⊢ bigSep Finset.univ fun c => bigSepL dists fun r => Φ c (peer c r) :=
  bigSep_mono fun c _ => to_others c (Φ c)

omit [FloatOps F] in
/-- Each device gives the tokens of its barrier and of its arrival cells to their payers. -/
theorem toks_swap : (bigSep Finset.univ fun c : Dev nD => (madeToks c : sProp 𝕄)) ⊢ bigSep Finset.univ fun c : Dev nD => payToks c := by
  unfold madeToks payToks
  rw [bigSep_sep', bigSep_sep', bigSep_sep', bigSep_sep',
    bigSep_univ_comm (fun c p : Dev nD => (dutyTok ER (barCell c) 0 p : sProp 𝕄)),
    bigSep_univ_comm (fun c s : Dev nD => (dutyTok ER (inCell c s) 0 s : sProp 𝕄))]
  iintro ⟨H1, H2, H3⟩
  isplitl [H1]
  · iapply (all_to_others (F := F) fun c p => dutyTok ER (barCell p) 0 c); iexact H1
  isplitl [H2]
  · iapply (all_to_others (F := F) fun c d => dutyTok ER (outCell c d) 0 c); iexact H2
  iapply (all_to_others (F := F) fun c p => dutyTok ER (inCell p c) 0 c); iexact H3

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ madeToks c) : sProp 𝕄)
      ⊢ bigSep Finset.univ (G' m ρ) := by
  rw [bigSep_sep', bigSep_sep', ← bigSep_univ_prod (fun ck : Dev nD × Kind => iprop(∃ κ : ℕ, cellInv ER (sched m ρ) κ (kcell ck))),
    bigSep_congr (s := Finset.univ) (fun (c : Dev nD) _ => bigSep_sep' Finset.univ (fun k : Kind => (atPos ER (kcell (c, k)) 0 ∅ 0 : sProp 𝕄)) (fun k => reached ER (kcell (c, k)) 0)),
    bigSep_sep', ← bigSep_univ_prod (fun ck : Dev nD × Kind => (reached ER (kcell ck) 0 : sProp 𝕄))]
  iintro ⟨HI, ⟨Hat, #HR⟩, Htok⟩
  ihave HK := (BI.bigSep_exists_pi Finset.univ (fun (ck : Dev nD × Kind) (κ : ℕ) => (cellInv ER (sched m ρ) κ (kcell ck) : sProp 𝕄))) $$ HI
  icases HK with ⟨%K, #HI⟩
  ihave Htk := (toks_swap (F := F)) $$ Htok
  iapply (bigSep_with_persistent (R := records m ρ K) (Φ := fun c => linear c) fun c _ => show _ ⊢ G' m ρ c from by
    unfold G'
    iintro ⟨HR, Hl⟩
    iexists K
    isplitl [HR] <;> iassumption)
  isplitr
  · unfold records; isplitl; · iexact HI
    iexact HR
  · iapply ((Entails.of_eq (bigSep_sep' Finset.univ (fun c : Dev nD => bigSep Finset.univ fun k : Kind => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- All devices' cells made at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Start and end -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hp, Hg, Hu, Ho⟩
  isplitl [Hu]; · iexact Hu
  isplitl [Ho]; · iexact Ho
  isplitl [Hp]
  · iexists (prod m ρ c); iexact Hp
  iexists (gathered m ρ c); iexact Hg

theorem stage_free : ∀ (w : Fin 6) (s : Fin (spec0 w).nbuf) (k : Kind), csem k ≠ .dma ((spec0 w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_free w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with all counters zero, the 32 devices' runs end, with the arrays as computed and all counters zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs after the run hold what they held. -/
theorem finalA_in (c : Dev nD) (w : Fin 6) (h : w ≠ 5) : finalA m ρ c w = (s₀ m ρ).mem ((spec0 w).arr.view.loc (c : Thread nD τ)) := by
  have hin : (w : Fin 6) → w ≠ 5 → (dats m ρ 0 c).arrAt w cfg0.N = (s₀ m ρ).mem ((spec0 w).arr.view.loc (c : Thread nD τ)) := fun
    | 0, _ => (dats (F := F) m ρ 0 c).arrAt_in (0 : Fin 6) rfl _
    | 1, _ => (dats (F := F) m ρ 0 c).arrAt_in (1 : Fin 6) rfl _
    | 2, _ => (dats (F := F) m ρ 0 c).arrAt_in (2 : Fin 6) rfl _
    | 3, _ => (dats (F := F) m ρ 0 c).arrAt_in (3 : Fin 6) rfl _
    | 4, _ => (dats (F := F) m ρ 0 c).arrAt_in (4 : Fin 6) rfl _
    | 5, h => absurd rfl h
  exact hin w h

end Cert.MoE

end
-- ==== Proof.Value.lean ====
/-
What the kernel computes, read at an index over the extended reals.
-/
module

public import proofs.«01_k».proof.Proof.Body
public import Idealize.ShloMosaic.Lib.Pointwise

@[expose] public section

noncomputable section

namespace Cert.MoE

open Cert.KernelIdeal Cert.KernelIdeal.Gen
open Idealize.ShloMosaic
open Idealize.ShloMosaic.TcCoe
open scoped BigOperators

/-! ## The mathematics -/

section Math
variable (x : FVec Ideal S1024x256 .bf16) (rw : FVec Ideal S256x128 .bf16) (ri : IVec S1024x1 32)

/-- Token `n`'s score for expert `e`. -/
def score (n : Fin 1024) (e : Fin 128) : EReal := ∑ k : Fin 256, (x (ix2 n k) : EReal) * (rw (ix2 k e) : EReal)
/-- The greatest of token `n`'s scores. -/
def top (n : Fin 1024) : EReal := Finset.univ.fold max (Ideal.ofBits .f32 0xFF800000#32) fun e : Fin 128 => score x rw n e
/-- The score's exponential, the greatest score taken off first. -/
def weight (n : Fin 1024) (e : Fin 128) : EReal := Ideal.exp (score x rw n e - top x rw n)
/-- The softmax of token `n`'s scores at expert `e`. -/
def prob (n : Fin 1024) (e : Fin 128) : EReal := Ideal.div (weight x rw n e) (∑ k : Fin 128, weight x rw n k)
/-- The softmax at the expert the token is routed to, nothing at the others. -/
def gate (n : Fin 1024) (e : Fin 128) : EReal := if ri (ix2 n 0) = BitVec.ofNat 32 e.val then prob x rw n e else 0
/-- Token `n`'s output from expert `e` with weights `w`, the input scaled by the gate. -/
def routed (w : Fin 256 → Fin 512 → EReal) (n : Fin 1024) (e : Fin 128) (f : Fin 512) : EReal :=
  ∑ k : Fin 256, (x (ix2 n k) : EReal) * gate x rw ri n e * w k f

/-- Selecting by an equality of words. -/
theorem select_eq (a b : BitVec 32) (p q : EReal) : Scalar.select (IntOp.cmpi .eq a b) p q = if a = b then p else q := by
  by_cases h : a = b
  · subst h; simp [Scalar.select, IntOp.cmpi]
  · simp [Scalar.select, IntOp.cmpi, beq_eq_false_iff_ne.mpr h, h]

theorem ofNat_expert {e e' : Fin 128} (h : BitVec.ofNat 32 e.val = BitVec.ofNat 32 e'.val) : e = e' := by
  have h := congrArg BitVec.toNat h
  simp only [BitVec.toNat_ofNat] at h
  exact Fin.ext (by omega)

/-- The gates of a token routed to `e` sum up to the gate of `e`. -/
theorem gate_sum (n : Fin 1024) (e : Fin 128) :
    (if ri (ix2 n 0) = BitVec.ofNat 32 e.val then ∑ e' : Fin 128, gate x rw ri n e' else 0) = gate x rw ri n e := by
  by_cases h : ri (ix2 n 0) = BitVec.ofNat 32 e.val
  · rw [if_pos h]
    refine Finset.sum_eq_single e (fun e' _ hne => ?_) fun h => absurd (Finset.mem_univ _) h
    exact if_neg fun h' => hne (ofNat_expert (h'.symm.trans h))
  · rw [if_neg h]; exact (if_neg h).symm

end Math

/-! ## The payloads -/

variable (x : FVec Ideal S1024x256 .bf16) (rw : FVec Ideal S256x128 .bf16) (ri : IVec S1024x1 32)

theorem pay3_at (n : Fin 1024) : k0_pay3 (F := Ideal) x rw ri (ix2 n 0) = ∑ e : Fin 128, gate x rw ri n e := by
  pointwise [k0_pay3, k0_pay1, k0_pay2, gate, prob, weight, top, score, select_eq]

/-- The number of a device's expert. -/
def expert (c : Dev nD) (l : Fin 4) : Fin 128 := ⟨4 * c.val + l.val, by have : c.val < 32 := c.isLt; omega⟩

theorem word_expert : ∀ (c : Dev nD) (l : Fin 4),
    IntOp.addi (IntOp.muli (word c) 4#32) (BitVec.ofNat 32 l.val) = BitVec.ofNat 32 (expert c l).val := by decide +kernel

/-- A device's products: its four experts' parts. -/
theorem products_at (c : Dev nD) (e0 e1 e2 e3 : FVec Ideal S1x256x512 .bf16) (n : Fin 1024) (f : Fin 512) :
    products (F := Ideal) c x rw ri e0 e1 e2 e3 (ix2 n f)
      = routed x rw ri (fun k f => e0 (ix3 0 k f)) n (expert c 0) f + routed x rw ri (fun k f => e1 (ix3 0 k f)) n (expert c 1) f
        + routed x rw ri (fun k f => e2 (ix3 0 k f)) n (expert c 2) f + routed x rw ri (fun k f => e3 (ix3 0 k f)) n (expert c 3) f := by
  have hg : ∀ l : Fin 4, (if ri (ix2 n 0) = IntOp.addi (IntOp.muli (word c) 4#32) (BitVec.ofNat 32 l.val)
      then (k0_pay3 (F := Ideal) x rw ri (ix2 n 0) : EReal) else 0) = gate x rw ri n (expert c l) := fun l => by
    rw [word_expert, pay3_at]; exact gate_sum x rw ri n _
  unfold routed
  rw [← hg 0, ← hg 1, ← hg 2, ← hg 3]
  pointwise [products, k0_pay6, k0_pay5, k0_pay4, k0_pay1, k0_pay2, select_eq]
  rfl

/-- The shared product of a device's tokens. -/
theorem shared_at (a : FVec Ideal S32x256 .bf16) (sw : FVec Ideal S256x512 .bf16) (t : Fin 32) (f : Fin 512) :
    k0_pay8 (F := Ideal) a sw (ix2 t f) = ∑ k : Fin 256, (a (ix2 t k) : EReal) * (sw (ix2 k f) : EReal) := by
  pointwise [k0_pay8]

/-! ## What is staged -/

variable (m : (ℓ : Loc nD τ sig) → Buf (Elt Ideal) ℓ) (ρ : Dev nD → PrngReg)

abbrev argX (c : Dev nD) : FVec Ideal S1024x256 .bf16 := m ((c.tc : Thread nD τ).loc main_arg0)
abbrev argRW (c : Dev nD) : FVec Ideal S256x128 .bf16 := m ((c.tc : Thread nD τ).loc main_arg1)
abbrev argRI (c : Dev nD) : IVec S1024x1 32 := m ((c.tc : Thread nD τ).loc main_arg2)
abbrev argEW (c : Dev nD) : FVec Ideal S4x256x512 .bf16 := m ((c.tc : Thread nD τ).loc main_arg3)
abbrev argSW (c : Dev nD) : FVec Ideal S256x512 .bf16 := m ((c.tc : Thread nD τ).loc main_arg4)

theorem xstg_eq (c : Dev nD) : xstg m ρ c = argX m c :=
  Memref.read_access_unit_zero (Elt Ideal) main_arg0 (funext fun a => Nat.zero_mul _) _ _
theorem rwstg_eq (c : Dev nD) : rwstg m ρ c = argRW m c :=
  Memref.read_access_unit_zero (Elt Ideal) main_arg1 (funext fun a => Nat.zero_mul _) _ _
theorem ristg_eq (c : Dev nD) : ristg m ρ c = argRI m c :=
  Memref.read_access_unit_zero (Elt Ideal) main_arg2 (funext fun a => Nat.zero_mul _) _ _
theorem ewstg_eq (c : Dev nD) : ewstg m ρ c = argEW m c :=
  Memref.read_access_unit_zero (Elt Ideal) main_arg3 (funext fun a => Nat.zero_mul _) _ _
theorem swstg_eq (c : Dev nD) : swstg m ρ c = argSW m c :=
  Memref.read_access_unit_zero (Elt Ideal) main_arg4 (funext fun a => Nat.zero_mul _) _ _

/-! ## The products and the total -/

/-- A device's products, of its own arguments. -/
theorem prod_at (c : Dev nD) (n : Fin 1024) (f : Fin 512) :
    (prod (F := Ideal) m ρ c (ix2 n f) : EReal)
      = ∑ l : Fin 4, routed (argX m c) (argRW m c) (argRI m c) (fun k f => argEW m c (ix3 l k f)) n (expert c l) f := by
  have hx : xM.view.readAt (Elt Ideal) rX.toLoadRect (xstg m ρ c) = argX m c := by
    rw [xstg_eq]; exact Memref.readAt_unit_zero (Elt Ideal) cc0_stg0_0 hz _ _
  have hw : rwM.view.readAt (Elt Ideal) rRW.toLoadRect (rwstg m ρ c) = argRW m c := by
    rw [rwstg_eq]; exact Memref.readAt_unit_zero (Elt Ideal) cc0_stg1_0 hz _ _
  have hr : riM.view.readAt (Elt Ideal) rRI.toLoadRect (ristg m ρ c) = argRI m c := by
    rw [ristg_eq]; exact Memref.readAt_unit_zero (Elt Ideal) cc0_stg2_0 hz _ _
  have he : ∀ (l : Fin 4) (h : ∀ a, (![l.val, 0, 0] : Fin 3 → ℕ) a + S1x256x512.size a ≤ S4x256x512.size a) (k : Fin 256) (f : Fin 512),
      ewM.view.readAt (Elt Ideal) (Rect.unit (s := S4x256x512) ![l.val, 0, 0] S1x256x512.size h).toLoadRect (ewstg m ρ c) (ix3 0 k f)
        = argEW m c (ix3 l k f) := fun l h k f => by
    rw [ewstg_eq]
    refine congrArg (argEW m c) (funext fun a => Fin.ext ?_)
    match a with
    | ⟨0, _⟩ => show l.val + 1 * 0 = l.val; omega
    | ⟨1, _⟩ => show 0 + 1 * k.val = k.val; omega
    | ⟨2, _⟩ => show 0 + 1 * f.val = f.val; omega
  rw [prod_eq, hx, hw, hr, products_at, Fin.sum_univ_four]
  refine congrArg₂ (· + ·) (congrArg₂ (· + ·) (congrArg₂ (· + ·) ?_ ?_) ?_) ?_
  · exact congrArg (fun w => routed _ _ _ w n _ f) (funext fun k => funext fun f => he 0 _ k f)
  · exact congrArg (fun w => routed _ _ _ w n _ f) (funext fun k => funext fun f => he 1 _ k f)
  · exact congrArg (fun w => routed _ _ _ w n _ f) (funext fun k => funext fun f => he 2 _ k f)
  · exact congrArg (fun w => routed _ _ _ w n _ f) (funext fun k => funext fun f => he 3 _ k f)

/-- Row `t` of device `c`'s 32 tokens. -/
def token (c : Dev nD) (t : Fin 32) : Fin 1024 := ⟨32 * c.val + t.val, by have : c.val < 32 := c.isLt; omega⟩

theorem rOwn_at (c : Dev nD) (t : Fin 32) (f : Fin 512) : (rOwn c).emb (ix2 t f) = ix2 (token c t) f := by
  funext a
  match a with
  | ⟨0, _⟩ => exact Fin.ext (rOwn_row c _)
  | ⟨1, _⟩ => exact Fin.ext (rOwn_col c _)

/-- The rows gathered, added up one block after the other. -/
theorem sumOf_at (g : S1024x512.Idx → Elt Ideal .bf16) (t : Fin 32) (f : Fin 512) : ∀ (l : List Row) (acc : FVec Ideal S32x512 .f32),
    (sumOf (F := Ideal) g acc l (ix2 t f) : EReal)
      = (acc (ix2 t f) : EReal) + (l.map fun n => (g ((rRow n).emb (ix2 t f)) : EReal)).sum
  | [], acc => (add_zero _).symm
  | n :: l, acc => by
    rw [sumOf, sumOf_at g t f l, List.map_cons, List.sum_cons, ← add_assoc]
    rfl

/-- The first of device `s`'s rows. -/
def firstRow (s : Fin 32) : Row := ⟨32 * s.val, fun a => match a with
  | ⟨0, _⟩ => show 32 * s.val + 32 ≤ 1024 by omega
  | ⟨1, _⟩ => show 0 + 512 ≤ 512 by omega⟩

theorem rows_eq : rows = (List.finRange 32).map firstRow := by decide +kernel

theorem firstRow_at (s : Dev nD) (y : S32x512.Idx) : (rRow (firstRow s)).emb y = (rOwn s).emb y := by
  funext a
  match a with
  | ⟨0, _⟩ => exact Fin.ext ((show 32 * s.val + 1 * (y 0).val = _ by omega).trans (rOwn_row s y).symm)
  | ⟨1, _⟩ => exact Fin.ext ((show 0 + 1 * (y 1).val = _ by omega).trans (rOwn_col s y).symm)

theorem off6 : ∀ c : Dev nD, k0_off6 c = ![32 * c.val, 0] := by decide +kernel

/-- The total of device `c`: its tokens' shared product and every device's products of them. -/
theorem total_at (c : Dev nD) (t : Fin 32) (f : Fin 512) :
    (total (F := Ideal) m ρ c (ix2 t f) : EReal)
      = ∑ k : Fin 256, (argX m c (ix2 (token c t) k) : EReal) * (argSW m c (ix2 k f) : EReal)
        + ∑ s : Dev nD, (prod (F := Ideal) m ρ s (ix2 (token c t) f) : EReal) := by
  have hx : ∀ k : Fin 256, xM.view.readAt (Elt Ideal) (rXc c).toLoadRect (xstg m ρ c) (ix2 t k) = argX m c (ix2 (token c t) k) := fun k => by
    rw [xstg_eq]
    refine congrArg (argX m c) (funext fun a => Fin.ext ?_)
    match a with
    | ⟨0, _⟩ => show k0_off6 c 0 + 1 * t.val = 32 * c.val + t.val; rw [off6, Nat.one_mul]; rfl
    | ⟨1, _⟩ => show k0_off6 c 1 + 1 * k.val = k.val; rw [off6, Nat.one_mul]; exact Nat.zero_add _
  have hs : swM.view.readAt (Elt Ideal) rSW.toLoadRect (swstg m ρ c) = argSW m c := by
    rw [swstg_eq]; exact Memref.readAt_unit_zero (Elt Ideal) cc0_stg4_0 hz _ _
  rw [total, sumOf_at, shared_at, rows_eq, List.map_map, ← Fin.sum_univ_def]
  refine congrArg₂ (· + ·) (Finset.sum_congr rfl fun k _ => ?_) (Finset.sum_congr rfl fun s _ => ?_)
  · rw [hx, hs]
  · show (gathered m ρ c ((rRow (firstRow s)).emb (ix2 t f)) : EReal) = _
    rw [firstRow_at, gathered_at, rOwn_at]

/-- The total over the experts: device `c`'s tokens' shared product and the routed part of every device's experts. -/
theorem total_routed (c : Dev nD) (t : Fin 32) (f : Fin 512) :
    (total (F := Ideal) m ρ c (ix2 t f) : EReal)
      = ∑ k : Fin 256, (argX m c (ix2 (token c t) k) : EReal) * (argSW m c (ix2 k f) : EReal)
        + ∑ s : Dev nD, ∑ l : Fin 4, routed (argX m s) (argRW m s) (argRI m s) (fun k f => argEW m s (ix3 l k f)) (token c t) (expert s l) f := by
  rw [total_at]; simp only [prod_at]

end Cert.MoE

end
-- ==== Proof.Ref.lean ====
/-
What the reference computes, read at an index over the extended reals.
-/
module

public import proofs.«01_k».proof.Proof.Value
public import proofs.«01_k».proof.Proof.Gen.ReferenceIdeal.Run

@[expose] public section

noncomputable section

namespace Cert.MoE

open Cert.ReferenceIdeal Cert.ReferenceIdeal.Gen
open Idealize.ShloMosaic
open scoped BigOperators

variable (x : FVec Ideal S1024x256 .bf16) (rw : FVec Ideal S256x128 .bf16) (ri : IVec S1024x1 32)
  (ew : FVec Ideal S128x256x512 .bf16) (sw : FVec Ideal S256x512 .bf16)

/-- The reference's scores. -/
def refScores : FVec Ideal S1024x128 .f32 :=
  Host.dotGeneral dot_S1024x256_S256x128_S1024x128_1_0_0_1_n_n none (extf .f32 x bitsLt_bf16_f32) (extf .f32 rw bitsLt_bf16_f32)

/-- The exponentials of the scores, each row's greatest score taken off first. -/
def refWeights : FVec Ideal S1024x128 .f32 :=
  Host.exp (subf (refScores x rw) (broadcastInDim S1024x128 ![0, 1] bcast_S1024x1_S1024x128_0_1 (broadcastInDim S1024x1 ![0] bcast_S1024_S1024x1_0 (Host.reduce FloatOps.maximumf (refScores x rw) (constant S_ .f32 0xFF800000#32) reducesTo_S1024x128_S1024_d1 h_S_))))

/-- The softmax where a token is routed, zero elsewhere. -/
def refGates : FVec Ideal S1024x128 .f32 :=
  select (cmpi .eq (broadcastInDim S1024x128 ![0, 1] bcast_S1024x1_S1024x128_0_1 ri) (broadcastInDim S1024x128 ![0, 1] bcast_S1x128_S1024x128_0_1 (broadcastInDim S1x128 ![1] bcast_S128_S1x128_1 (iotaInDim S128 32 0)))) (Host.divf (refWeights x rw) (broadcastInDim S1024x128 ![0, 1] bcast_S1024x1_S1024x128_0_1 (broadcastInDim S1024x1 ![0] bcast_S1024_S1024x1_0 (Host.reduceAdd (refWeights x rw) (constant S_ .f32 0x00000000#32) reducesTo_S1024x128_S1024_d1 h_S_)))) (broadcastInDim S1024x128 ![] bcast_S_S1024x128 (id (constant S_ .f32 0x00000000#32)))

/-- The reference's result. -/
def refOut : FVec Ideal S1024x512 .f32 :=
  addf (Host.dotGeneral dot_S1024x256_S256x512_S1024x512_1_0_0_1_n_n none (extf .f32 x bitsLt_bf16_f32) (extf .f32 sw bitsLt_bf16_f32)) (Host.dotGeneral dot_S1024x128x256_S128x256x512_S1024x512_21_10_0_2_n_n none (mulf (broadcastInDim S1024x128x256 ![0, 1, 2] bcast_S1024x1x256_S1024x128x256_0_1_2 (broadcastInDim S1024x1x256 ![0, 2] bcast_S1024x256_S1024x1x256_0_2 (extf .f32 x bitsLt_bf16_f32))) (broadcastInDim S1024x128x256 ![0, 1, 2] bcast_S1024x128x1_S1024x128x256_0_1_2 (broadcastInDim S1024x128x1 ![0, 1] bcast_S1024x128_S1024x128x1_0_1 (refGates x rw ri)))) (extf .f32 ew bitsLt_bf16_f32))

theorem refScores_at (n : Fin 1024) (e : Fin 128) : (refScores x rw (ix2 n e) : EReal) = score x rw n e := by
  pointwise [refScores, score]

theorem refWeights_at (n : Fin 1024) (e : Fin 128) : (refWeights x rw (ix2 n e) : EReal) = weight x rw n e := by
  pointwise [refWeights, weight, top, refScores_at]

theorem refGates_at (n : Fin 1024) (e : Fin 128) : (refGates x rw ri (ix2 n e) : EReal) = gate x rw ri n e := by
  pointwise [refGates, gate, prob, refWeights_at, select_eq, id_eq]

/-- The reference at a token and a column: the shared product and the routed parts of all experts. -/
theorem refOut_at (n : Fin 1024) (f : Fin 512) :
    (refOut x rw ri ew sw (ix2 n f) : EReal)
      = ∑ k : Fin 256, (x (ix2 n k) : EReal) * (sw (ix2 k f) : EReal)
        + ∑ e : Fin 128, routed x rw ri (fun k f => ew (ix3 e k f)) n e f := by
  unfold routed
  rw [Finset.sum_comm]
  pointwise [refOut, refGates_at]

end Cert.MoE

end
-- ==== Proof.Claims.lean ====
/-
The claims: what the runs leave in memory, and that kernel and reference leave the same.
-/
module

public import proofs.«01_k».proof.Defs
public import proofs.«01_k».proof.Proof.Gen.Kernel
public import proofs.«01_k».proof.Proof.Run
public import proofs.«01_k».proof.Proof.Ref

@[expose] public section

noncomputable section

namespace Cert.MoE

open Cert.KernelIdeal Cert.KernelIdeal.Gen
open Idealize.ShloMosaic
open Idealize.ShloMosaic.TcCoe
open Idealize.SL.Sem
open scoped BigOperators

/-! ## The frames -/

section Run
variable {F : FTy → Type} [FloatOps F]

/-- A device's arguments at the end are what they were. -/
theorem args_kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c (0 : Fin 6)).trans (finalA_in m ρ c 0 (by decide)), (h c (1 : Fin 6)).trans (finalA_in m ρ c 1 (by decide)),
    (h c (2 : Fin 6)).trans (finalA_in m ρ c 2 (by decide)), (h c (3 : Fin 6)).trans (finalA_in m ρ c 3 (by decide)),
    (h c (4 : Fin 6)).trans (finalA_in m ρ c 4 (by decide))⟩

/-- A device's result at the end is its total. -/
theorem finalA_out (m : (ℓ : Loc nD τ sig) → Buf (Elt F) ℓ) (ρ : Dev nD → PrngReg) (c : Dev nD) :
    finalA m ρ c (5 : Fin 6) = total m ρ c := by
  have hz : (fun a => (win0_5.index (0 : Fin 1)) a * main_v1.ty.shape.size a) = fun _ => 0 :=
    funext fun a => by fin_cases a <;> decide
  have hr := fun f => Memref.read_access_unit_zero (Elt F) main_v1 hz (fun a => by fin_cases a <;> decide) f
  have h : (win0_5.blk (0 : Fin 1)).view.read (Elt F) (finalA m ρ c (5 : Fin 6)) = total m ρ c := by
    have hs : finalA m ρ c (5 : Fin 6) = if (cfg0.win (5 : Fin 6)).flush (0 : Fin 1) = true then
        View.write (Elt F) ((cfg0.win (5 : Fin 6)).blk (0 : Fin 1)).view ((dats m ρ 0 c).arrAt (5 : Fin 6) ((0 : Fin 1) : Fin 1).val)
          ((dats m ρ 0 c).flushed (5 : Fin 6) (0 : Fin 1)) Finset.univ
      else (dats m ρ 0 c).arrAt (5 : Fin 6) ((0 : Fin 1) : Fin 1).val := (dats m ρ 0 c).arrAt_succ (5 : Fin 6) (0 : Fin 1)
    rw [hs, show (cfg0.win (5 : Fin 6)).flush (0 : Fin 1) = true from by decide, if_pos rfl]
    exact View.read_write_univ _ _
  exact (hr _).symm.trans h

end Run

theorem frame_ideal : Cert.quiescent_KernelIdeal (hKernelIdeal := Cert.KernelIdeal.Gen.facts) := fun m ρ _ =>
  (θ_run Cert.KernelIdeal.defs _ _).mono (fun r h => ⟨fun c => args_kept m ρ r h.1 c, h.2⟩) (run_main (F := Ideal) m ρ)

set_option smartUnfolding false in
/-- The kernel over bit patterns and its ideal reading are one text: what one's runs do at any float values, the other's do. -/
theorem frame_kernel : Cert.quiescent_Kernel (hKernel := Cert.Kernel.Gen.facts) := fun m ρ _ =>
  (θ_run Cert.KernelIdeal.defs _ _).mono (fun r h => ⟨fun c => args_kept m ρ r h.1 c, h.2⟩) (run_main (F := Bits) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-! ## The equation -/

/-- Sums over the experts are sums over the devices and each device's four. -/
theorem sum_experts (g : Fin 128 → EReal) : ∑ s : Dev nD, ∑ l : Fin 4, g (expert s l) = ∑ e : Fin 128, g e := by
  rw [← Fintype.sum_prod_type']
  refine Fintype.sum_equiv (finProdFinEquiv (m := 32) (n := 4)) _ _ fun p => congrArg g (Fin.ext ?_)
  show 4 * p.1.val + p.2.val = p.2.val + 4 * p.1.val
  omega

theorem ew_block (W : FVec Ideal ⟨3, ![128, 256, 512]⟩ .bf16) (s : Dev nD) (l : Fin 4) (k : Fin 256) (f : Fin 512) :
    Layout.block ⟨3, ![4, 256, 512]⟩ ⟨3, ![128, 256, 512]⟩ 0 32 s W (by decide) (ix3 l k f) = W (ix3 (expert s l) k f) := by
  rw [Layout.block_apply]
  refine congrArg W (funext fun a => Fin.ext ?_)
  rw [Layout.Tiles.idx_val]
  match a with
  | ⟨0, _⟩ => show s.val * 4 + l.val = 4 * s.val + l.val; omega
  | ⟨1, _⟩ => rfl
  | ⟨2, _⟩ => rfl

theorem out_block (V : FVec Ideal ⟨2, ![1024, 512]⟩ .f32) (c : Dev nD) (t : Fin 32) (f : Fin 512) :
    Layout.block ⟨2, ![32, 512]⟩ ⟨2, ![1024, 512]⟩ 0 32 c V (by decide) (ix2 t f) = V (ix2 (token c t) f) := by
  rw [Layout.block_apply]
  refine congrArg V (funext fun a => Fin.ext ?_)
  rw [Layout.Tiles.idx_val]
  match a with
  | ⟨0, _⟩ => show c.val * 32 + t.val = 32 * c.val + t.val; omega
  | ⟨1, _⟩ => rfl

/-- Device `c`'s total is its block of the reference's result. -/
theorem total_eq (m : (ℓ : Loc nD τ sig) → Buf (Elt Ideal) ℓ) (ρ : Dev nD → PrngReg)
    (x : FVec Ideal S1024x256 .bf16) (rw : FVec Ideal S256x128 .bf16) (ri : IVec S1024x1 32)
    (ew : FVec Ideal ⟨3, ![128, 256, 512]⟩ .bf16) (sw : FVec Ideal S256x512 .bf16)
    (hx : ∀ c, argX m c = x) (hrw : ∀ c, argRW m c = rw) (hri : ∀ c, argRI m c = ri)
    (hew : ∀ c, argEW m c = Layout.block ⟨3, ![4, 256, 512]⟩ ⟨3, ![128, 256, 512]⟩ 0 32 c ew) (hsw : ∀ c, argSW m c = sw) (c : Dev nD) :
    total (F := Ideal) m ρ c = Layout.block ⟨2, ![32, 512]⟩ ⟨2, ![1024, 512]⟩ 0 32 c (refOut x rw ri ew sw) := by
  funext j
  obtain ⟨t, f, rfl⟩ : ∃ (t : Fin 32) (f : Fin 512), j = ix2 t f := ⟨j 0, j 1, funext fun a => match a with | ⟨0, _⟩ => rfl | ⟨1, _⟩ => rfl⟩
  rw [out_block]
  refine (total_routed m ρ c t f).trans (Eq.trans ?_ (refOut_at x rw ri ew sw (token c t) f).symm)
  rw [hx c, hsw c, ← sum_experts]
  refine congrArg₂ (· + ·) rfl (Finset.sum_congr rfl fun s _ => Finset.sum_congr rfl fun l _ => ?_)
  rw [hx s, hrw s, hri s, hew s]
  exact congrArg (fun w => routed x rw ri w (token c t) (expert s l) f) (funext fun k => funext fun f => ew_block ew s l k f)

theorem algebraic : Cert.algebraic_KernelIdeal_ReferenceIdeal (hKernelIdeal := Cert.KernelIdeal.Gen.facts)
    (hReferenceIdeal := Cert.ReferenceIdeal.Gen.facts) := fun m g m' g' _ hargs => by
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono (fun r h c => ⟨?_, args_kept m g r h.1 c⟩) (run_main (F := Ideal) m g)
    exact ((h.1 c (5 : Fin 6)).trans (finalA_out m g c)).trans
      (total_eq m g _ _ _ _ _ (fun c => (hargs c).1) (fun c => (hargs c).2.1) (fun c => (hargs c).2.2.1) (fun c => (hargs c).2.2.2.1)
        (fun c => (hargs c).2.2.2.2) c)
  · exact (θ_run Cert.ReferenceIdeal.defs _ _).mono (fun r h => h 0) (Cert.ReferenceIdeal.Value.run (F := Ideal) m' g')

end Cert.MoE

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

theorem claim : Cert.Claim := ⟨Cert.Kernel.Gen.facts, Cert.KernelIdeal.Gen.facts, Cert.ReferenceIdeal.Gen.facts,
  Cert.MoE.frame_kernel, Cert.MoE.frame_ideal, Cert.MoE.frame_reference, trivial, Cert.MoE.algebraic⟩

end Cert.Proof

end
